-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_routing_and_output [hPre_finite_routing_and_output : Cert.Pre_finite_routing_and_output.Facts] (m : (ℓ : Loc Cert.KernelIdeal.nD Cert.KernelIdeal.τ Cert.KernelIdeal.sig) → Buf (Elt Ideal) ℓ) : Prop :=
  ∀ c : Dev Cert.KernelIdeal.nD,
    (Cert.Pre_finite_routing_and_output.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite_routing_and_output.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite_routing_and_output.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_routing_and_output [hPre_finite_routing_and_output : Cert.Pre_finite_routing_and_output.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_routing_and_output.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite_routing_and_output.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite_routing_and_output.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_routing_and_output [hKernelIdeal : Cert.KernelIdeal.Facts] [hPre_finite_routing_and_output : Cert.Pre_finite_routing_and_output.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_routing_and_output m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_routing_and_output [hReferenceIdeal : Cert.ReferenceIdeal.Facts] [hPre_finite_routing_and_output : Cert.Pre_finite_routing_and_output.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_routing_and_output m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_routing_and_output [hKernelIdeal : Cert.KernelIdeal.Facts] [hReferenceIdeal : Cert.ReferenceIdeal.Facts] [hPre_finite_routing_and_output : Cert.Pre_finite_routing_and_output.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_routing_and_output m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_routing_and_output : Cert.Pre_finite_routing_and_output.Facts),
    quiescent_Kernel (hKernel := hKernel)
    ∧ quiescent_KernelIdeal (hKernelIdeal := hKernelIdeal)
    ∧ quiescent_KernelIdeal_pre_finite_routing_and_output (hKernelIdeal := hKernelIdeal) (hPre_finite_routing_and_output := hPre_finite_routing_and_output)
    ∧ quiescent_ReferenceIdeal (hReferenceIdeal := hReferenceIdeal)
    ∧ quiescent_ReferenceIdeal_pre_finite_routing_and_output (hReferenceIdeal := hReferenceIdeal) (hPre_finite_routing_and_output := hPre_finite_routing_and_output)
    ∧ preserves_Kernel_KernelIdeal
    ∧ algebraic_KernelIdeal_ReferenceIdeal_pre_finite_routing_and_output (hKernelIdeal := hKernelIdeal) (hReferenceIdeal := hReferenceIdeal) (hPre_finite_routing_and_output := hPre_finite_routing_and_output)
-- ==== Pre_finite_routing_and_output.lean ====
abbrev S1x2048x768 : Shape := ⟨3, ![1, 2048, 768]⟩
abbrev S8x768 : Shape := ⟨2, ![8, 768]⟩
abbrev S8x3072x768 : Shape := ⟨3, ![8, 3072, 768]⟩
abbrev S8x768x3072 : Shape := ⟨3, ![8, 768, 3072]⟩
abbrev S_ : Shape := ⟨0, ![]⟩

class Facts : Prop where
  bcast_S_S1x2048x768 : S_.BroadcastsInDim S1x2048x768 (![] : Fin 0 → Fin S1x2048x768.rank)
  bcast_S_S8x768 : S_.BroadcastsInDim S8x768 (![] : Fin 0 → Fin S8x768.rank)
  bcast_S_S8x768x3072 : S_.BroadcastsInDim S8x768x3072 (![] : Fin 0 → Fin S8x768x3072.rank)

variable [Facts]

def fn {F : FTy → Type} [FloatOps F] (main_arg0 : FVec F S1x2048x768 .f32) (main_arg1 : FVec F S8x768 .f32) (main_arg2 : FVec F S8x3072x768 .f32) (main_arg3 : FVec F S8x768x3072 .f32) : IVec S1x2048x768 1 × IVec S8x768 1 × IVec S8x768x3072 1 :=
  let main_cst : FVec F S_ .f32 := constant S_ .f32 0x7F800000#32
  let main_v0 : FVec F S_ .f32 := Host.negf main_cst
  let main_v1 : FVec F S1x2048x768 .f32 := broadcastInDim S1x2048x768 ![] bcast_S_S1x2048x768 main_v0
  let main_v2 : IVec S1x2048x768 1 := cmpf .olt main_v1 main_arg0
  let main_cst_0 : FVec F S_ .f32 := constant S_ .f32 0x7F800000#32
  let main_v3 : FVec F S1x2048x768 .f32 := broadcastInDim S1x2048x768 ![] bcast_S_S1x2048x768 main_cst_0
  let main_v4 : IVec S1x2048x768 1 := cmpf .olt main_arg0 main_v3
  let main_v5 : IVec S1x2048x768 1 := andi main_v2 main_v4
  let main_cst_1 : FVec F S_ .f32 := constant S_ .f32 0x7F800000#32
  let main_v6 : FVec F S_ .f32 := Host.negf main_cst_1
  let main_v7 : FVec F S8x768 .f32 := broadcastInDim S8x768 ![] bcast_S_S8x768 main_v6
  let main_v8 : IVec S8x768 1 := cmpf .olt main_v7 main_arg1
  let main_cst_2 : FVec F S_ .f32 := constant S_ .f32 0x7F800000#32
  let main_v9 : FVec F S8x768 .f32 := broadcastInDim S8x768 ![] bcast_S_S8x768 main_cst_2
  let main_v10 : IVec S8x768 1 := cmpf .olt main_arg1 main_v9
  let main_v11 : IVec S8x768 1 := andi main_v8 main_v10
  let main_cst_3 : FVec F S_ .f32 := constant S_ .f32 0x7F800000#32
  let main_v12 : FVec F S_ .f32 := Host.negf main_cst_3
  let main_v13 : FVec F S8x768x3072 .f32 := broadcastInDim S8x768x3072 ![] bcast_S_S8x768x3072 main_v12
  let main_v14 : IVec S8x768x3072 1 := cmpf .olt main_v13 main_arg3
  let main_cst_4 : FVec F S_ .f32 := constant S_ .f32 0x7F800000#32
  let main_v15 : FVec F S8x768x3072 .f32 := broadcastInDim S8x768x3072 ![] bcast_S_S8x768x3072 main_cst_4
  let main_v16 : IVec S8x768x3072 1 := cmpf .olt main_arg3 main_v15
  let main_v17 : IVec S8x768x3072 1 := andi main_v14 main_v16
  (main_v5, main_v11, main_v17)
-- ==== Kernel.lean ====
abbrev S1x2048x768 : Shape := ⟨3, ![1, 2048, 768]⟩
abbrev S8x768 : Shape := ⟨2, ![8, 768]⟩
abbrev S8x3072x768 : Shape := ⟨3, ![8, 3072, 768]⟩
abbrev S8x768x3072 : Shape := ⟨3, ![8, 768, 3072]⟩
abbrev S2048x768 : Shape := ⟨2, ![2048, 768]⟩
abbrev S_ : Shape := ⟨0, ![]⟩
abbrev S128x768 : Shape := ⟨2, ![128, 768]⟩
abbrev S1 : Shape := ⟨1, ![1]⟩
abbrev S2048x128 : Shape := ⟨2, ![2048, 128]⟩
abbrev S1x128 : Shape := ⟨2, ![1, 128]⟩
abbrev S128 : Shape := ⟨1, ![128]⟩
abbrev S2048 : Shape := ⟨1, ![2048]⟩
abbrev S2048x1 : Shape := ⟨2, ![2048, 1]⟩
abbrev S512x512 : Shape := ⟨2, ![512, 512]⟩
abbrev S2048x256 : Shape := ⟨2, ![2048, 256]⟩
abbrev S1x256 : Shape := ⟨2, ![1, 256]⟩
abbrev S512x256 : Shape := ⟨2, ![512, 256]⟩
abbrev S256 : Shape := ⟨1, ![256]⟩
abbrev S512x128 : Shape := ⟨2, ![512, 128]⟩
abbrev S512 : Shape := ⟨1, ![512]⟩
abbrev S512x1 : Shape := ⟨2, ![512, 1]⟩
abbrev S128x128 : Shape := ⟨2, ![128, 128]⟩
abbrev S1x1 : Shape := ⟨2, ![1, 1]⟩
abbrev S1x3072x768 : Shape := ⟨3, ![1, 3072, 768]⟩
abbrev S1x768x3072 : Shape := ⟨3, ![1, 768, 3072]⟩
abbrev S256x768 : Shape := ⟨2, ![256, 768]⟩
abbrev S3072x768 : Shape := ⟨2, ![3072, 768]⟩
abbrev S256x3072 : Shape := ⟨2, ![256, 3072]⟩
abbrev S3072 : Shape := ⟨1, ![3072]⟩
abbrev S1x3072 : Shape := ⟨2, ![1, 3072]⟩
abbrev S768x3072 : Shape := ⟨2, ![768, 3072]⟩
abbrev S1x768 : Shape := ⟨2, ![1, 768]⟩
abbrev S512x768 : Shape := ⟨2, ![512, 768]⟩
abbrev S512x8 : Shape := ⟨2, ![512, 8]⟩

abbrev nBuf : Space → Nat
  | .hbm => 17
  | .vmem => 19
  | .smem => 1
  | _ => 0

abbrev bufTy : (tb : Table) → Fin (tcTables nBuf tb) → BufTy
  | .hbm, ⟨0, _⟩ => ⟨S1x2048x768, .f32⟩
  | .hbm, ⟨1, _⟩ => ⟨S8x768, .f32⟩
  | .hbm, ⟨2, _⟩ => ⟨S8x3072x768, .f32⟩
  | .hbm, ⟨3, _⟩ => ⟨S8x768x3072, .f32⟩
  | .hbm, ⟨4, _⟩ => ⟨S2048x768, .f32⟩
  | .hbm, ⟨5, _⟩ => ⟨S_, .f32⟩
  | .hbm, ⟨6, _⟩ => ⟨S128x768, .f32⟩
  | .hbm, ⟨7, _⟩ => ⟨S_, .i32⟩
  | .hbm, ⟨8, _⟩ => ⟨S1, .i32⟩
  | .hbm, ⟨9, _⟩ => ⟨S128x768, .f32⟩
  | .hbm, ⟨10, _⟩ => ⟨S2048x128, .f32⟩
  | .hbm, ⟨11, _⟩ => ⟨S2048x128, .i32⟩
  | .hbm, ⟨12, _⟩ => ⟨S1x128, .i32⟩
  | .hbm, ⟨13, _⟩ => ⟨S2048x768, .bf16⟩
  | .hbm, ⟨14, _⟩ => ⟨S8x768, .f32⟩
  | .hbm, ⟨15, _⟩ => ⟨S2048x768, .f32⟩
  | .hbm, ⟨16, _⟩ => ⟨S1x2048x768, .f32⟩
  | .local _ .vmem, ⟨0, _⟩ => ⟨S2048x768, .f32⟩
  | .local _ .vmem, ⟨1, _⟩ => ⟨S128x768, .f32⟩
  | .local _ .vmem, ⟨2, _⟩ => ⟨S2048x128, .f32⟩
  | .local _ .vmem, ⟨3, _⟩ => ⟨S2048x128, .i32⟩
  | .local _ .vmem, ⟨4, _⟩ => ⟨S1x128, .i32⟩
  | .local _ .vmem, ⟨5, _⟩ => ⟨S2048x768, .bf16⟩
  | .local _ .vmem, ⟨6, _⟩ => ⟨S2048x128, .i32⟩
  | .local _ .vmem, ⟨7, _⟩ => ⟨S2048x768, .bf16⟩
  | .local _ .vmem, ⟨8, _⟩ => ⟨S1x3072x768, .f32⟩
  | .local _ .vmem, ⟨9, _⟩ => ⟨S1x3072x768, .f32⟩
  | .local _ .vmem, ⟨10, _⟩ => ⟨S1x768x3072, .f32⟩
  | .local _ .vmem, ⟨11, _⟩ => ⟨S1x768x3072, .f32⟩
  | .local _ .vmem, ⟨12, _⟩ => ⟨S8x768, .f32⟩
  | .local _ .vmem, ⟨13, _⟩ => ⟨S8x768, .f32⟩
  | .local _ .vmem, ⟨14, _⟩ => ⟨S512x128, .f32⟩
  | .local _ .vmem, ⟨15, _⟩ => ⟨S512x128, .f32⟩
  | .local _ .vmem, ⟨16, _⟩ => ⟨S8x768, .f32⟩
  | .local _ .vmem, ⟨17, _⟩ => ⟨S512x768, .f32⟩
  | .local _ .vmem, ⟨18, _⟩ => ⟨S512x768, .f32⟩
  | .local _ .smem, ⟨0, _⟩ => ⟨S128, .i32⟩
  | _, _ => ⟨S1x2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_cst : Ref sig .tc := ⟨.hbm, 5, rfl⟩
abbrev main_call0_v1 : Ref sig .tc := ⟨.hbm, 6, rfl⟩
abbrev main_call0_c : Ref sig .tc := ⟨.hbm, 7, rfl⟩
abbrev main_call0_v2 : Ref sig .tc := ⟨.hbm, 8, rfl⟩
abbrev main_call0_v3 : Ref sig .tc := ⟨.hbm, 9, rfl⟩
abbrev main_call0_v4_0 : Ref sig .tc := ⟨.hbm, 10, rfl⟩
abbrev main_call0_v4_1 : Ref sig .tc := ⟨.hbm, 11, rfl⟩
abbrev main_call0_v4_2 : Ref sig .tc := ⟨.hbm, 12, rfl⟩
abbrev main_call0_v4_3 : Ref sig .tc := ⟨.hbm, 13, rfl⟩
abbrev main_call0_v6 : Ref sig .tc := ⟨.hbm, 14, rfl⟩
abbrev main_call0_v7 : Ref sig .tc := ⟨.hbm, 15, rfl⟩
abbrev main_v0 : Ref sig .tc := ⟨.hbm, 16, rfl⟩
abbrev main_call0_v5 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc1_stg0_0 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_scratch0 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc1_sem0_0 : DmaSem sig := 6
abbrev cc1_sem1_0 : DmaSem sig := 7
abbrev cc1_sem2_0 : DmaSem sig := 8
abbrev cc1_sem2_1 : DmaSem sig := 9
abbrev cc1_sem3_0 : DmaSem sig := 10
abbrev cc1_sem3_1 : DmaSem sig := 11
abbrev cc1_sem4_0 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem2_1 : DmaSem sig := 17

abbrev nD : Nat := 1
abbrev τ : Topo := Topo.v7x

variable {F : FTy → Type} [FloatOps F]

abbrev grid0 : Pipeline.Grid := .none

abbrev stage0_0 : Fin 1 → Memref sig .tc .vmem S2048x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x128 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x128 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2048x768 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev grid1 : Pipeline.Grid := ⟨1, ![24], ![false]⟩

abbrev pre1 : Pipeline.Prefetch sig := ⟨1, ![main_call0_v5.idx], fun | 0 => main_call0_v5.names | ⟨_ + 1, h⟩ => absurd h (Nat.not_lt.2 (Nat.le_add_left _ _)), fun | 0 => rfl | ⟨_ + 1, h⟩ => absurd h (Nat.not_lt.2 (Nat.le_add_left _ _))⟩

def k1_off1 (i : grid1.Coords) : Fin 1 → Nat :=
  let arg0 : BitVec 32 := BitVec.ofNat 32 (i 0).val
  let v0 : Index := Scalar.indexCast arg0
  ![v0.toNat]
def k1_off2 (i : grid1.Coords) : Fin 1 → Nat :=
  let arg0 : BitVec 32 := BitVec.ofNat 32 (i 0).val
  let v10 : Index := Scalar.indexCast arg0
  ![v10.toNat]
def k1_off3 (v11 : BitVec 32) : Fin 2 → Nat :=
  let v41 : Index := Scalar.indexCast v11
  let c0_16 : Index := 0#32
  ![v41.toNat, 0]
def k1_cond2 (i : grid1.Coords) (v0 : BitVec 32) : BitVec 1 :=
  let arg0 : BitVec 32 := BitVec.ofNat 32 (i 0).val
  let v4 : BitVec 1 := Scalar.cmpi .slt arg0 v0
  let v5 : BitVec 32 := Scalar.extui v4
  let c0_i32_1 : BitVec 32 := 0#32
  let v6 : BitVec 1 := Scalar.cmpi .ne v5 c0_i32_1
  v6

def k1_chk1 (i : grid1.Coords) (v0 : BitVec 32) (v11 : BitVec 32) : Prop :=
  (∀ (k1_h2 : k1_cond2 i v0 = 1#1), ∀ a, (k1_off3 v11) a + S1x768.size a ≤ S8x768.size a)
theorem k1_off3_inb : ∀ (i : grid1.Coords) (v0 : BitVec 32) (v11 : BitVec 32) (k1_hw1 : k1_chk1 i v0 v11), ∀ (k1_h2 : k1_cond2 i v0 = 1#1), ∀ a, (k1_off3 v11) a + S1x768.size a ≤ S8x768.size a := fun i v0 v11 k1_hw1 k1_h2 => k1_hw1 k1_h2

def k1_cond3 (i : grid1.Coords) : BitVec 1 :=
  let arg0 : BitVec 32 := BitVec.ofNat 32 (i 0).val
  let c23_i32 : BitVec 32 := 23#32
  let v7 : BitVec 1 := Scalar.cmpi .eq arg0 c23_i32
  let v8 : BitVec 32 := Scalar.extui v7
  let c0_i32_2 : BitVec 32 := 0#32
  let v9 : BitVec 1 := Scalar.cmpi .ne v8 c0_i32_2
  v9

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (k1_off1_inb : ∀ i : grid1.Coords, ∀ a, (k1_off1 i) a + S1.size a ≤ S128.size a) (numel1_S1 : S1.numel = 1) (pf : pre1.Contents (Elt F)) (i : grid1.Coords) : Fin 3 → Nat :=
  let arg0 : BitVec 32 := BitVec.ofNat 32 (i 0).val
  let v0 : Index := Scalar.indexCast arg0
  let v1 : BitVec 32 := pf.at 0 (Rect.unit (s := S128) ![v0.toNat] S1.size (k1_off1_inb i)) numel1_S1
  let c0_i32 : BitVec 32 := 0#32
  let c0_i32_0 : BitVec 32 := 0#32
  let c0_i32_1 : BitVec 32 := 0#32
  ![v1.toNat, c0_i32.toNat, c0_i32_0.toNat]

def cc1_transform_3 (k1_off1_inb : ∀ i : grid1.Coords, ∀ a, (k1_off1 i) a + S1.size a ≤ S128.size a) (numel1_S1 : S1.numel = 1) (pf : pre1.Contents (Elt F)) (i : grid1.Coords) : Fin 3 → Nat :=
  let arg0 : BitVec 32 := BitVec.ofNat 32 (i 0).val
  let v0 : Index := Scalar.indexCast arg0
  let v1 : BitVec 32 := pf.at 0 (Rect.unit (s := S128) ![v0.toNat] S1.size (k1_off1_inb i)) numel1_S1
  let c0_i32 : BitVec 32 := 0#32
  let c0_i32_0 : BitVec 32 := 0#32
  let c0_i32_1 : BitVec 32 := 0#32
  ![v1.toNat, c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S2048x128 .i32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S2048x768 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1x3072x768 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x768x3072 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S8x768 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev grid2 : Pipeline.Grid := ⟨1, ![4], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S8x768 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S512x768 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]
-- ==== KernelIdeal.lean ====
variable {F : FTy → Type} [FloatOps F] [Named F]
def κ : String → Option EReal := fun
  | "mask" => some ⊥
  | _ => none
-- ==== ReferenceIdeal.lean ====
abbrev S1x2048x768 : Shape := ⟨3, ![1, 2048, 768]⟩
abbrev S8x768 : Shape := ⟨2, ![8, 768]⟩
abbrev S8x3072x768 : Shape := ⟨3, ![8, 3072, 768]⟩
abbrev S8x768x3072 : Shape := ⟨3, ![8, 768, 3072]⟩
abbrev S2048x768 : Shape := ⟨2, ![2048, 768]⟩
abbrev S768x8 : Shape := ⟨2, ![768, 8]⟩
abbrev S2048x8 : Shape := ⟨2, ![2048, 8]⟩
abbrev S2048x2 : Shape := ⟨2, ![2048, 2]⟩
abbrev S_ : Shape := ⟨0, ![]⟩
abbrev S2048 : Shape := ⟨1, ![2048]⟩
abbrev S2048x1 : Shape := ⟨2, ![2048, 1]⟩
abbrev S2048x2x1 : Shape := ⟨3, ![2048, 2, 1]⟩
abbrev S1x1x8 : Shape := ⟨3, ![1, 1, 8]⟩
abbrev S2048x2x8 : Shape := ⟨3, ![2048, 2, 8]⟩
abbrev S2048x8x3072 : Shape := ⟨3, ![2048, 8, 3072]⟩
abbrev S8x2048x768 : Shape := ⟨3, ![8, 2048, 768]⟩
abbrev S8 : Shape := ⟨1, ![8]⟩
abbrev S8x1 : Shape := ⟨2, ![8, 1]⟩
abbrev S2048x2x768 : Shape := ⟨3, ![2048, 2, 768]⟩

abbrev nBuf : Space → Nat
  | .hbm => 81
  | .vmem => 0
  | .smem => 0
  | _ => 0

abbrev bufTy : (tb : Table) → Fin (tcTables nBuf tb) → BufTy
  | .hbm, ⟨0, _⟩ => ⟨S1x2048x768, .f32⟩
  | .hbm, ⟨1, _⟩ => ⟨S8x768, .f32⟩
  | .hbm, ⟨2, _⟩ => ⟨S8x3072x768, .f32⟩
  | .hbm, ⟨3, _⟩ => ⟨S8x768x3072, .f32⟩
  | .hbm, ⟨4, _⟩ => ⟨S2048x768, .f32⟩
  | .hbm, ⟨5, _⟩ => ⟨S768x8, .f32⟩
  | .hbm, ⟨6, _⟩ => ⟨S2048x8, .f32⟩
  | .hbm, ⟨7, _⟩ => ⟨S2048x2, .f32⟩
  | .hbm, ⟨8, _⟩ => ⟨S2048x2, .i32⟩
  | .hbm, ⟨9, _⟩ => ⟨S_, .f32⟩
  | .hbm, ⟨10, _⟩ => ⟨S2048, .f32⟩
  | .hbm, ⟨11, _⟩ => ⟨S_, .f32⟩
  | .hbm, ⟨12, _⟩ => ⟨S2048, .f32⟩
  | .hbm, ⟨13, _⟩ => ⟨S2048, .f32⟩
  | .hbm, ⟨14, _⟩ => ⟨S2048x1, .f32⟩
  | .hbm, ⟨15, _⟩ => ⟨S2048x2, .f32⟩
  | .hbm, ⟨16, _⟩ => ⟨S2048x2, .f32⟩
  | .hbm, ⟨17, _⟩ => ⟨S2048x2, .f32⟩
  | .hbm, ⟨18, _⟩ => ⟨S_, .f32⟩
  | .hbm, ⟨19, _⟩ => ⟨S2048, .f32⟩
  | .hbm, ⟨20, _⟩ => ⟨S2048x1, .f32⟩
  | .hbm, ⟨21, _⟩ => ⟨S2048x2, .f32⟩
  | .hbm, ⟨22, _⟩ => ⟨S2048x2, .f32⟩
  | .hbm, ⟨23, _⟩ => ⟨S2048x2x1, .i32⟩
  | .hbm, ⟨24, _⟩ => ⟨S1x1x8, .i32⟩
  | .hbm, ⟨25, _⟩ => ⟨S2048x2x8, .i32⟩
  | .hbm, ⟨26, _⟩ => ⟨S2048x2x8, .i32⟩
  | .hbm, ⟨27, _⟩ => ⟨S2048x2x8, .i1⟩
  | .hbm, ⟨28, _⟩ => ⟨S2048x2x8, .f32⟩
  | .hbm, ⟨29, _⟩ => ⟨S_, .f32⟩
  | .hbm, ⟨30, _⟩ => ⟨S2048x8, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S2048x8, .f32⟩
  | .hbm, ⟨35, _⟩ => ⟨S2048x8, .f32⟩
  | .hbm, ⟨36, _⟩ => ⟨S_, .f32⟩
  | .hbm, ⟨37, _⟩ => ⟨S2048x8, .f32⟩
  | .hbm, ⟨38, _⟩ => ⟨S2048x8, .f32⟩
  | .hbm, ⟨39, _⟩ => ⟨S8x768x3072, .f32⟩
  | .hbm, ⟨40, _⟩ => ⟨S2048x8x3072, .f32⟩
  | .hbm, ⟨41, _⟩ => ⟨S2048x8x3072, .f32⟩
  | .hbm, ⟨42, _⟩ => ⟨S2048x8x3072, .f32⟩
  | .hbm, ⟨43, _⟩ => ⟨S_, .f32⟩
  | .hbm, ⟨44, _⟩ => ⟨S2048x8x3072, .f32⟩
  | .hbm, ⟨45, _⟩ => ⟨S2048x8x3072, .f32⟩
  | .hbm, ⟨46, _⟩ => ⟨S_, .f32⟩
  | .hbm, ⟨47, _⟩ => ⟨S2048x8x3072, .f32⟩
  | .hbm, ⟨48, _⟩ => ⟨S2048x8x3072, .f32⟩
  | .hbm, ⟨49, _⟩ => ⟨S2048x8x3072, .f32⟩
  | .hbm, ⟨50, _⟩ => ⟨S8x3072x768, .f32⟩
  | .hbm, ⟨51, _⟩ => ⟨S8x2048x768, .f32⟩
  | .hbm, ⟨52, _⟩ => ⟨S_, .f32⟩
  | .hbm, ⟨53, _⟩ => ⟨S8, .f32⟩
  | .hbm, ⟨54, _⟩ => ⟨S8x768, .f32⟩
  | .hbm, ⟨55, _⟩ => ⟨S8x1, .f32⟩
  | .hbm, ⟨56, _⟩ => ⟨S_, .f32⟩
  | .hbm, ⟨57, _⟩ => ⟨S8x1, .f32⟩
  | .hbm, ⟨58, _⟩ => ⟨S8x1, .i1⟩
  | .hbm, ⟨59, _⟩ => ⟨S_, .f32⟩
  | .hbm, ⟨60, _⟩ => ⟨S8, .f32⟩
  | .hbm, ⟨61, _⟩ => ⟨S8, .f32⟩
  | .hbm, ⟨62, _⟩ => ⟨S8x1, .f32⟩
  | .hbm, ⟨63, _⟩ => ⟨S8x768, .f32⟩
  | .hbm, ⟨64, _⟩ => ⟨S8x768, .f32⟩
  | .hbm, ⟨65, _⟩ => ⟨S_, .f32⟩
  | .hbm, ⟨66, _⟩ => ⟨S_, .f32⟩
  | .hbm, ⟨67, _⟩ => ⟨S8x768, .i1⟩
  | .hbm, ⟨68, _⟩ => ⟨S8x768, .f32⟩
  | .hbm, ⟨69, _⟩ => ⟨S8x768, .f32⟩
  | .hbm, ⟨70, _⟩ => ⟨S_, .i32⟩
  | .hbm, ⟨71, _⟩ => ⟨S2048x2, .i32⟩
  | .hbm, ⟨72, _⟩ => ⟨S2048x2, .i1⟩
  | .hbm, ⟨73, _⟩ => ⟨S_, .i32⟩
  | .hbm, ⟨74, _⟩ => ⟨S2048x2, .i32⟩
  | .hbm, ⟨75, _⟩ => ⟨S2048x2, .i32⟩
  | .hbm, ⟨76, _⟩ => ⟨S2048x2, .i32⟩
  | .hbm, ⟨77, _⟩ => ⟨S2048x2x1, .i32⟩
  | .hbm, ⟨78, _⟩ => ⟨S2048x2x768, .f32⟩
  | .hbm, ⟨79, _⟩ => ⟨S2048x768, .f32⟩
  | .hbm, ⟨80, _⟩ => ⟨S1x2048x768, .f32⟩
  | _, _ => ⟨S1x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_values : Ref sig .tc := ⟨.hbm, 7, rfl⟩
abbrev main_indices : Ref sig .tc := ⟨.hbm, 8, rfl⟩
abbrev main_cst : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_cst_3 : Ref sig .tc := ⟨.hbm, 31, rfl⟩
abbrev main_cst_4 : Ref sig .tc := ⟨.hbm, 32, rfl⟩
abbrev main_call1_v0 : Ref sig .tc := ⟨.hbm, 33, rfl⟩
abbrev main_call1_v1 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_call2_v0 : Ref sig .tc := ⟨.hbm, 41, rfl⟩
abbrev main_call2_v1 : Ref sig .tc := ⟨.hbm, 42, rfl⟩
abbrev main_call2_cst : Ref sig .tc := ⟨.hbm, 43, rfl⟩
abbrev main_call2_v2 : Ref sig .tc := ⟨.hbm, 44, rfl⟩
abbrev main_call2_v3 : Ref sig .tc := ⟨.hbm, 45, rfl⟩
abbrev main_call2_cst_0 : Ref sig .tc := ⟨.hbm, 46, rfl⟩
abbrev main_call2_v4 : Ref sig .tc := ⟨.hbm, 47, rfl⟩
abbrev main_call2_v5 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_cst_5 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_cst_6 : Ref sig .tc := ⟨.hbm, 56, rfl⟩
abbrev main_v25 : Ref sig .tc := ⟨.hbm, 57, rfl⟩
abbrev main_v26 : Ref sig .tc := ⟨.hbm, 58, rfl⟩
abbrev main_cst_7 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_cst_8 : Ref sig .tc := ⟨.hbm, 65, rfl⟩
abbrev main_call3_v0 : Ref sig .tc := ⟨.hbm, 66, rfl⟩
abbrev main_call3_v1 : Ref sig .tc := ⟨.hbm, 67, rfl⟩
abbrev main_call3_v2 : Ref sig .tc := ⟨.hbm, 68, rfl⟩
abbrev main_v32 : Ref sig .tc := ⟨.hbm, 69, rfl⟩
abbrev main_c : Ref sig .tc := ⟨.hbm, 70, rfl⟩
abbrev main_v33 : Ref sig .tc := ⟨.hbm, 71, rfl⟩
abbrev main_v34 : Ref sig .tc := ⟨.hbm, 72, rfl⟩
abbrev main_c_9 : Ref sig .tc := ⟨.hbm, 73, rfl⟩
abbrev main_v35 : Ref sig .tc := ⟨.hbm, 74, rfl⟩
abbrev main_v36 : Ref sig .tc := ⟨.hbm, 75, rfl⟩
abbrev main_v37 : Ref sig .tc := ⟨.hbm, 76, rfl⟩
abbrev main_v38 : Ref sig .tc := ⟨.hbm, 77, rfl⟩
abbrev main_v39 : Ref sig .tc := ⟨.hbm, 78, rfl⟩
abbrev main_v40 : Ref sig .tc := ⟨.hbm, 79, rfl⟩
abbrev main_v41 : Ref sig .tc := ⟨.hbm, 80, rfl⟩

abbrev nD : Nat := 1
abbrev τ : Topo := Topo.v7x

variable {F : FTy → Type} [FloatOps F]
-- ==== Proof.Ideal.Common.lean ====
/-
  The three kernel regions' common ground: the resource algebra, the notation for a buffer held whole on
  a core, and the levels (no core owes another anything).
-/
module

public import proofs.«01_k».proof.Proof.Gen.KernelIdeal.Launch
public import proofs.«01_k».proof.Proof.Gen.KernelIdeal.Regions
public import proofs.«01_k».proof.Proof.Gen.KernelIdeal.Points
public import proofs.«01_k».proof.Proof.Gen.KernelIdeal.Skeleton
public import Idealize.ShloMosaic.Lib.Pipeline.Regions
public import Idealize.ShloMosaic.Lib.Pipeline.TableIdle
public import Idealize.ShloMosaic.Lib.Pipeline.Value
public import Idealize.ShloMosaic.Lib.Pipeline.FrameBody
public import Idealize.ShloMosaic.Lib.Tactic

@[expose] public section

noncomputable section

namespace Cert.KernelIdeal.Moe

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

/-- The pipeline library's algebra, the one copy the three kernel regions share. -/
abbrev UU : Type := UR sig nD τ

variable {F : FTy → Type}

/-- A buffer's contents on a core, and the buffer held whole at them. -/
abbrev Bf (c : Dev nD) {sp : Space} {S : Shape} {e : EltTy} (M : Memref sig .tc sp S e) : Type :=
  Buf (Elt F) (M.view.loc (c : Thread nD τ))
/-- A buffer held whole at its contents. -/
abbrev pt (c : Dev nD) {sp : Space} {S : Shape} {e : EltTy} (M : Memref sig .tc sp S e) (f : Bf (F := F) c M) :
    sProp (MT nD τ sig Unit (Elt F) ℕ UU ℕ) :=
  M.view.loc (c : Thread nD τ) ↦{fullShare} f

/-- One level for the tensor core's own semaphores: no core owes another anything. -/
abbrev L : GSem nD τ sig → Finset Unit := fun g => if g.1.2 = .tc then {()} else ∅
/-- Every semaphore has level zero. -/
abbrev lv : GSem nD τ sig → Unit → ℕ := fun _ _ => 0

section
variable [∀ e, Nonempty (Elt F e)]

/-- Loading a part of a memref that owns `X` reads that part of `X`. -/
theorem rd_part {sp : Space} {S : Shape} {e : EltTy} (v : View sig .tc sp S e) (X : S.Idx → Elt F e) (r : Rect S) :
    v.readAt (Elt F) r.toLoadRect (v.rep X) = View.ld X r := by
  rw [View.readAt_rep]

/-- Loading the whole of it reads `X`. -/
theorem rd_whole {sp : Space} {S : Shape} {e : EltTy} (v : View sig .tc sp S e) (X : S.Idx → Elt F e) {off : Fin S.rank → ℕ}
    (h : off = fun _ => 0) (inb : ∀ a, off a + S.size a ≤ S.size a) :
    v.readAt (Elt F) (Rect.unit off S.size inb).toLoadRect (v.rep X) = X := by
  rw [rd_part, View.ld_unit_zero h]

/-- The zero offsets of a rank-two rectangle. -/
theorem off2 : (![0, 0] : Fin 2 → ℕ) = fun _ => 0 := by decide

/-- A memref stored whole by one store owns the stored value. -/
theorem owns_stored (c : Dev nD) {sp : Space} {S : Shape} {e : EltTy} (M : Memref sig .tc sp S e) {off : Fin S.rank → ℕ}
    (h : off = fun _ => 0) (inb : ∀ a, off a + S.size a ≤ S.size a) (f : Bf (F := F) c M) (w : S.Idx → Elt F e) :
    (M.view.loc (c : Thread nD τ) ↦[M.view.set]{fullShare} M.view.writes (Elt F) f [⟨Rect.unit off S.size inb, w⟩])
      ⊢ (owns (c : Thread nD τ) M fullShare w : sProp (MT nD τ sig Unit (Elt F) ℕ UU ℕ)) := by
  have e : M.view.read (Elt F) (M.view.writes (Elt F) f [⟨Rect.unit off S.size inb, w⟩]) = w :=
    (View.read_writes_eq_canon _ _ _ fun y => ⟨_, List.mem_singleton_self _, View.mem_set_unit_zero h inb y⟩).trans
      (View.canon_unit_zero h inb w)
  unfold owns
  iintro H
  iexists _
  isplitr
  swap
  · iexact H
  · ipureintro; exact e
end

end Cert.KernelIdeal.Moe

end
-- ==== Proof.Ideal.Routing.lean ====
/-
  The routing kernel's body: the values it computes from the staged tokens and router weights, by name, and
  the run that leaves the four results at them.
-/
module

public import proofs.«01_k».proof.Proof.Ideal.Common

@[expose] public section

noncomputable section

namespace Cert.KernelIdeal.Moe

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

section Values

variable (X : Vec F S2048x768 .f32) (G : Vec F S128x768 .f32)

/-- The lane of each element. -/
def lanes : IVec S2048x128 32 := iota .tc S2048x128 32 [1] iota_S2048x128_d1_w32

/-- The one-hot row of each token's first expert, the mask of its second, and that mask's one-hot row. -/
def hot1 : FVec F S2048x128 .f32 := k0_pay12 X G
/-- The mask of each token's second expert. -/
def sel2 : IVec S2048x128 1 := k0_pay13 X G
/-- The one-hot row of each token's second expert. -/
def hot2 : FVec F S2048x128 .f32 := k0_pay14 (F := F) (sel2 X G)
/-- How many tokens choose each expert first, and how many choose it at all. -/
def cntA : FVec F S1x128 .f32 := k0_pay15 (hot1 X G)
/-- How many tokens choose each expert at all. -/
def cntB : FVec F S1x128 .f32 := k0_pay16 (hot1 X G) (sel2 X G)
/-- The combining weights. -/
def wts : FVec F S2048x128 .f32 := k0_pay17 (k0_pay10 X G) (k0_pay11 X G) (hot1 X G) (sel2 X G)
/-- The two one-hot rows side by side, and the counts of the tokens before the second tile. -/
def hots : FVec F S2048x256 .bf16 := k0_pay19 (hot1 X G) (sel2 X G)
/-- The counts of the tokens before the second tile. -/
def run1 : FVec F S1x256 .f32 := k0_pay23 (hot1 X G) (sel2 X G)
/-- Each token's rank among the tokens that choose its first (second) expert first (second). -/
def rankA : FVec F S2048x1 .f32 :=
  k0_pay38 (k0_pay24 (hot1 X G) (sel2 X G)) (k0_pay29 (hot1 X G) (k0_pay18 (F := F)) (hots X G) (run1 X G))
    (k0_pay33 (hot1 X G) (k0_pay18 (F := F)) (hots X G) (run1 X G)) (k0_pay37 (hot1 X G) (k0_pay18 (F := F)) (hots X G) (run1 X G))
/-- Each token's rank among the tokens that choose its second expert second. -/
def rankB : FVec F S2048x1 .f32 :=
  k0_pay39 (k0_pay25 (hot1 X G) (sel2 X G)) (k0_pay30 (hot2 X G) (k0_pay18 (F := F)) (hots X G) (run1 X G))
    (k0_pay34 (hot2 X G) (k0_pay18 (F := F)) (hots X G) (run1 X G)) (k0_pay35 (k0_pay18 (F := F)) (hots X G) (run1 X G)) (k0_pay36 (hot2 X G))
/-- The first row of each expert's blocks, alone and against the first one-hot row. -/
def base : FVec F S1x128 .f32 := k0_pay42 (cntB X G)
/-- The first row of each expert's blocks against the first one-hot row. -/
def baseHot : FVec F S2048x128 .f32 := k0_pay43 (hot1 X G) (cntB X G)
/-- The table of positions. -/
def posT : IVec S2048x128 32 := k0_pay46 lanes (hot2 X G) (cntA X G) (rankA X G) (rankB X G) (base X G) (baseHot X G)
/-- The experts of the blocks, before the last lane is set. -/
def blkE : IVec S1x128 32 :=
  k0_pay51 lanes (k0_pay6 X G) (k0_pay9 X G) (k0_pay45 (hot2 X G) (cntA X G) (rankB X G) (base X G))
    (k0_pay48 (rankA X G) (baseHot X G)) (k0_pay49 (rankA X G) (baseHot X G)) k0_pay50
/-- The table of the blocks' experts. -/
def beT : IVec S1x128 32 := k0_pay1 (k0_pay41 (cntB X G)) (blkE X G) (iota .tc S1x128 32 [1] iota_S1x128_d1_w32) 24#32
/-- The tokens as the main kernel reads them. -/
def tok : FVec F S2048x768 .bf16 := k0_pay3 X

end Values

/-- The routing body on any staging memrefs. -/
theorem routing_run (c : Dev nD) (M0 : Memref sig .tc .vmem S2048x768 .f32) (h0 : M0.IsWhole)
    (M1 : Memref sig .tc .vmem S128x768 .f32) (h1 : M1.IsWhole) (M2 : Memref sig .tc .vmem S2048x128 .f32) (h2 : M2.IsWhole)
    (M3 : Memref sig .tc .vmem S2048x128 .i32) (h3 : M3.IsWhole) (M4 : Memref sig .tc .vmem S1x128 .i32) (h4 : M4.IsWhole)
    (M5 : Memref sig .tc .vmem S2048x768 .bf16) (h5 : M5.IsWhole)
    (X : Vec F S2048x768 .f32) (G : Vec F S128x768 .f32) (X2 : Vec F S2048x128 .f32) (X3 : Vec F S2048x128 .i32)
    (X4 : Vec F S1x128 .i32) (X5 : Vec F S2048x768 .bf16) (E : Set ℕ) (Q : PUnit → sProp 𝕄) :
    iprop(owns (c : Thread nD τ) M0 fullShare X ∗ owns (c : Thread nD τ) M1 fullShare G ∗ owns (c : Thread nD τ) M2 fullShare X2
        ∗ owns (c : Thread nD τ) M3 fullShare X3 ∗ owns (c : Thread nD τ) M4 fullShare X4 ∗ owns (c : Thread nD τ) M5 fullShare X5
        ∗ (iprop(owns (c : Thread nD τ) M0 fullShare X ∗ owns (c : Thread nD τ) M1 fullShare G
          ∗ owns (c : Thread nD τ) M2 fullShare (wts X G) ∗ owns (c : Thread nD τ) M3 fullShare (posT X G)
          ∗ owns (c : Thread nD τ) M4 fullShare (beT X G) ∗ owns (c : Thread nD τ) M5 fullShare (tok X)) -∗ Q ⟨⟩))
      ⊢ wp frame (wpE (defs₀ (F := F)) Variants.none c none) E (cc0__routing_kernel M0 h0 M1 h1 M2 h2 M3 h3 M4 h4 M5 h5) Q := by
  rw [cc0__routing_kernel_eq_skeleton]
  unfold cc0__routing_kernel_skel
  rw [k0_part1_eq_skeleton, k0_part2_eq_skeleton, k0_part3_eq_skeleton, k0_part4_eq_skeleton, k0_part5_eq_skeleton, k0_part6_eq_skeleton]
  unfold k0_part1_skel k0_part2_skel k0_part3_skel k0_part4_skel k0_part5_skel k0_part6_skel
  rw [owns_eq_rep, owns_eq_rep, owns_eq_rep, owns_eq_rep, owns_eq_rep, owns_eq_rep]
  iintro ⟨H0, H1, H2, H3, H4, H5, Hk⟩
  sl_exec
  sl_step
  rw [rd_whole _ _ off2, rd_whole _ _ off2]
  iapply Hk
  isplitl [H0]; · iexact H0
  isplitl [H1]; · iexact H1
  isplitl [H2]; · iapply (owns_stored c M2 off2 inb_S2048x128_S2048x128_0_0 _ _); iexact H2
  isplitl [H3]; · iapply (owns_stored c M3 off2 inb_S2048x128_S2048x128_0_0 _ _); iexact H3
  isplitl [H4]; · iapply (owns_stored c M4 off2 inb_S1x128_S1x128_0_0 _ _); iexact H4
  iapply (owns_stored c M5 off2 inb_S2048x768_S2048x768_0_0 _ _); iexact H5

end Cert.KernelIdeal.Moe

end
-- ==== Proof.Ideal.RoutingRegion.lean ====
/-
  The routing region (one point): what its windows hold, and the library's obligation for its body.
-/
module

public import proofs.«01_k».proof.Proof.Ideal.Routing

@[expose] public section

noncomputable section

namespace Cert.KernelIdeal.Moe

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (V : (c : Dev nD) → (b : Ref sig .tc) → Buf (Elt F) ((c : Thread nD τ).loc b))

/-- The staged tokens and router weights. -/
abbrev xTile (c : Dev nD) (t : Fin cfg0.N) : Vec F S2048x768 .f32 := ((cfg0.win 0).blk t).view.read (Elt F) (V c main_call0_v0)
/-- The padded gate, as the routing region reads it. -/
abbrev gTile (c : Dev nD) (t : Fin cfg0.N) : Vec F S128x768 .f32 := ((cfg0.win 1).blk t).view.read (Elt F) (V c main_call0_v3)

/-- The scoped buffers the region does not stage: its invariant between the points. -/
abbrev Φ0 (c : Dev nD) : sProp 𝕄 := Pipeline.scopedRest (Ix := Unit) (Name := ℕ) (U := UU) (Lvl := ℕ) (Val := Elt F) spec0 c

/-- The routing region entered with the unscoped buffers at `V`. -/
def dat0 (c : Dev nD) : Dat τ (Elt F) Unit ℕ UU ℕ cfg0 c where
  A w := V c (Pipeline.arrRef spec0 w)
  after w t := match w with
    | ⟨0, _⟩ => xTile V c t
    | ⟨1, _⟩ => gTile V c t
    | ⟨2, _⟩ => wts (xTile V c t) (gTile V c t)
    | ⟨3, _⟩ => posT (xTile V c t) (gTile V c t)
    | ⟨4, _⟩ => beT (xTile V c t) (gTile V c t)
    | ⟨5, _⟩ => tok (xTile V c t)
  Φ _ := Φ0 c
  q _ := fullShare
  owed _ := 0

/-- Before the routing body runs, its first staging buffer holds the tokens. -/
theorem before0_0 (c : Dev nD) (t : Fin cfg0.N) (d) : (dat0 V c).before 0 t d = xTile V c t :=
  (dat0 V c).before_in_eq_fetched 0 rfl (fun _ => rfl) (fun _ _ _ => rfl) (fun _ => rfl) t d
/-- Before the routing body runs, its second staging buffer holds the padded gate. -/
theorem before0_1 (c : Dev nD) (t : Fin cfg0.N) (d) : (dat0 V c).before 1 t d = gTile V c t :=
  (dat0 V c).before_in_eq_fetched 1 rfl (fun _ => rfl) (fun _ _ _ => rfl) (fun _ => rfl) t d

/-- The body: from the staged arrays it leaves the four results. -/
theorem body0 (c : Dev nD) : BodyObligation (dat0 V c) (defs₀ (F := F)) Variants.none () Set.univ := fun t => by
  rw [bigSep_W0, bigSep_W0]
  rw [show (dat0 V c).Φ t.castSucc = Φ0 c from rfl, show (dat0 V c).Φ t.succ = Φ0 c from rfl,
    show (dat0 V c).owesAt () t.succ = (dat0 V c).owesAt () t.castSucc from rfl]
  iintro ⟨HΦ, Howes, ⟨%d0, H0⟩, ⟨%d1, H1⟩, ⟨%d2, H2⟩, ⟨%d3, H3⟩, ⟨%d4, H4⟩, ⟨%d5, H5⟩⟩
  rw [before0_0, before0_1]
  iapply (routing_run c _ (hstage0_0 0) _ (hstage0_1 0) _ (hstage0_2 0) _ (hstage0_3 0) _ (hstage0_4 0) _ (hstage0_5 0)
    (xTile V c t) (gTile V c t) _ _ _ _ Set.univ _)
  isplitl [H0]; · iexact H0
  isplitl [H1]; · iexact H1
  isplitl [H2]; · iexact H2
  isplitl [H3]; · iexact H3
  isplitl [H4]; · iexact H4
  isplitl [H5]; · iexact H5
  iintro ⟨H0, H1, H2, H3, H4, H5⟩
  isplitl [HΦ]; · iexact HΦ
  isplitl [Howes]; · iexact Howes
  isplitl [H0]; · iexact H0
  isplitl [H1]; · iexact H1
  isplitl [H2]; · iexact H2
  isplitl [H3]; · iexact H3
  isplitl [H4]; · iexact H4
  iexact H5

end Cert.KernelIdeal.Moe

end
-- ==== Proof.Ideal.RoutingArrays.lean ====
/-
  What the routing region leaves in its four arrays: one point, every window the whole array.
-/
module

public import proofs.«01_k».proof.Proof.Ideal.RoutingRegion
public import Idealize.ShloMosaic.Lib.Pipeline.ValueKit.Geometry

@[expose] public section

noncomputable section

namespace Cert.KernelIdeal.Moe

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (V : (c : Dev nD) → (b : Ref sig .tc) → Buf (Elt F) ((c : Thread nD τ).loc b))

/-- A block that is the whole array has the array's own indices. -/
theorem emb0_0 (t : Fin cfg0.N) (y : S2048x768.Idx) : ((cfg0.win 0).blk t).view.emb y = y := by
  funext a
  apply Fin.ext
  refine (ValueKit.view_emb_slice_whole_unit_val ..).trans ?_
  show 0 * _ + _ = _
  omega
/-- The routing region's second window is the whole array. -/
theorem emb0_1 (t : Fin cfg0.N) (y : S128x768.Idx) : ((cfg0.win 1).blk t).view.emb y = y := by
  funext a
  apply Fin.ext
  refine (ValueKit.view_emb_slice_whole_unit_val ..).trans ?_
  show 0 * _ + _ = _
  omega
/-- The routing region's third window is the whole array. -/
theorem emb0_2 (t : Fin cfg0.N) (y : S2048x128.Idx) : ((cfg0.win 2).blk t).view.emb y = y := by
  funext a
  apply Fin.ext
  refine (ValueKit.view_emb_slice_whole_unit_val ..).trans ?_
  show 0 * _ + _ = _
  omega
/-- The routing region's fourth window is the whole array. -/
theorem emb0_3 (t : Fin cfg0.N) (y : S2048x128.Idx) : ((cfg0.win 3).blk t).view.emb y = y := by
  funext a
  apply Fin.ext
  refine (ValueKit.view_emb_slice_whole_unit_val ..).trans ?_
  show 0 * _ + _ = _
  omega
/-- The routing region's fifth window is the whole array. -/
theorem emb0_4 (t : Fin cfg0.N) (y : S1x128.Idx) : ((cfg0.win 4).blk t).view.emb y = y := by
  funext a
  apply Fin.ext
  refine (ValueKit.view_emb_slice_whole_unit_val ..).trans ?_
  show 0 * _ + _ = _
  omega
/-- The routing region's sixth window is the whole array. -/
theorem emb0_5 (t : Fin cfg0.N) (y : S2048x768.Idx) : ((cfg0.win 5).blk t).view.emb y = y := by
  funext a
  apply Fin.ext
  refine (ValueKit.view_emb_slice_whole_unit_val ..).trans ?_
  show 0 * _ + _ = _
  omega

/-- The one block of the tokens is the tokens, that of the router weights the weights. -/
theorem xTile_eq (c : Dev nD) (t : Fin cfg0.N) : xTile V c t = V c main_call0_v0 :=
  funext fun y => congrArg (V c main_call0_v0) (emb0_0 t y)
/-- The gate that the routing region reads is the whole padded gate. -/
theorem gTile_eq (c : Dev nD) (t : Fin cfg0.N) : gTile V c t = V c main_call0_v3 :=
  funext fun y => congrArg (V c main_call0_v3) (emb0_1 t y)

/-- The array of the weights after the region. -/
theorem arr0_2 (c : Dev nD) : (dat0 V c).arrAt 2 cfg0.N = wts (V c main_call0_v0) (V c main_call0_v3) := by
  refine (dat0 V c).arrAt_eq_of_covers 2 _ (by decide +kernel) fun t hf y => ?_
  rw [emb0_2 t y, ← xTile_eq V c t, ← gTile_eq V c t]
  rfl
/-- The array of the row positions. -/
theorem arr0_3 (c : Dev nD) : (dat0 V c).arrAt 3 cfg0.N = posT (V c main_call0_v0) (V c main_call0_v3) := by
  refine (dat0 V c).arrAt_eq_of_covers 3 _ (by decide +kernel) fun t hf y => ?_
  rw [emb0_3 t y, ← xTile_eq V c t, ← gTile_eq V c t]
  rfl
/-- The array of the blocks' experts. -/
theorem arr0_4 (c : Dev nD) : (dat0 V c).arrAt 4 cfg0.N = beT (V c main_call0_v0) (V c main_call0_v3) := by
  refine (dat0 V c).arrAt_eq_of_covers 4 _ (by decide +kernel) fun t hf y => ?_
  rw [emb0_4 t y, ← xTile_eq V c t, ← gTile_eq V c t]
  rfl
/-- The array of the rounded tokens. -/
theorem arr0_5 (c : Dev nD) : (dat0 V c).arrAt 5 cfg0.N = tok (V c main_call0_v0) := by
  refine (dat0 V c).arrAt_eq_of_covers 5 _ (by decide +kernel) fun t hf y => ?_
  rw [emb0_5 t y, ← xTile_eq V c t]
  rfl

end Cert.KernelIdeal.Moe

end
-- ==== Proof.Ideal.Main.lean ====
/-
  The main kernel's body at one grid point: what it leaves in the accumulator and in the output, and the run.
-/
module

public import proofs.«01_k».proof.Proof.Ideal.Common
public import Idealize.ShloMosaic.Lib.VecWindow

@[expose] public section

noncomputable section

namespace Cert.KernelIdeal.Moe

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

/-- Whether the grid point is the first one, as the kernel computes it. -/
def isFirst (i : grid1.Coords) : BitVec 1 :=
  Scalar.cmpi .ne (Scalar.extui (Scalar.cmpi .eq (BitVec.ofNat 32 (i 0).val) 0#32) : BitVec 32) 0#32

/-- The word `k` of the prefetched table. -/
def word (T : Vec F S128 .i32) (k : ℕ) (h : k < 128) : BitVec 32 := T fun a => ⟨k, by fin_cases a; exact h⟩

/-- The accumulator as the first conditional leaves it: zero at the first point, else unchanged. -/
def accZero (i : grid1.Coords) (A : Vec F S8x768 .f32) : Vec F S8x768 .f32 := if isFirst i = 1#1 then k1_pay1 else A

/-- The block product of one grid point, added to the accumulator's row of the block's expert. -/
def accRow (i : grid1.Coords) (e : BitVec 32) (h : ∀ a, (k1_off3 e) a + S1x768.size a ≤ S8x768.size a) (P : Vec F S2048x128 .i32)
    (X : Vec F S2048x768 .bf16) (W1 : Vec F S1x3072x768 .f32) (W2 : Vec F S1x768x3072 .f32) (A : Vec F S8x768 .f32) : Vec F S1x768 .f32 :=
  k1_pay2 i (View.ld P (Rect.unit (s := S2048x128) ![0, 0] S2048x1.size inb_S2048x128_S2048x1_0_0))
    (View.ld P (Rect.unit (s := S2048x128) ![0, 1] S2048x1.size inb_S2048x128_S2048x1_0_1)) X W1 W2
    (View.ld A (Rect.unit (s := S8x768) (k1_off3 e) S1x768.size h))

/-- The accumulator after one grid point, whose table words are the total `n` and the expert `e`. -/
def accStep (i : grid1.Coords) (n e : BitVec 32) (h : ∀ a, (k1_off3 e) a + S1x768.size a ≤ S8x768.size a) (P : Vec F S2048x128 .i32)
    (X : Vec F S2048x768 .bf16) (W1 : Vec F S1x3072x768 .f32) (W2 : Vec F S1x768x3072 .f32) (A : Vec F S8x768 .f32) : Vec F S8x768 .f32 :=
  if k1_cond2 i n = 1#1 then VecWindow.put (accZero i A) (k1_off3 e) S1x768.size (accRow i e h P X W1 W2 (accZero i A)) else accZero i A

/-- The output window after one grid point: the accumulator at the last point, else unchanged. -/
def outStep (i : grid1.Coords) (A O : Vec F S8x768 .f32) : Vec F S8x768 .f32 := if k1_cond3 i = 1#1 then A else O

/-- The zero offsets of a rank-three rectangle. -/
theorem off3 : (![0, 0, 0] : Fin 3 → ℕ) = fun _ => 0 := by decide

/-- A memref holding one value or another holds the value so chosen. -/
theorem rep_if (c : Dev nD) {sp : Space} {S : Shape} {e : EltTy} (M : Memref sig .tc sp S e) {off : Fin S.rank → ℕ} (p : Prop) [Decidable p]
    (h : off = fun _ => 0) (inb : ∀ a, off a + S.size a ≤ S.size a) (f : Bf (F := F) c M) (w A : S.Idx → Elt F e) :
    (M.view.loc (c : Thread nD τ) ↦[M.view.set]{fullShare}
        if p then M.view.writes (Elt F) f [⟨Rect.unit off S.size inb, w⟩] else M.view.rep A)
      ⊢ (M.view.loc (c : Thread nD τ) ↦[M.view.set]{fullShare} M.view.rep (if p then w else A) : sProp 𝕄) := by
  by_cases hp : p
  · rw [if_pos hp, if_pos hp, ← owns_eq_rep]
    exact owns_stored c M h inb f w
  · rw [if_neg hp, if_neg hp]

/-- A memref stored at a rectangle holds its old value with the stored one put there. -/
theorem rep_put (c : Dev nD) {sp : Space} {S : Shape} {e : EltTy} (M : Memref sig .tc sp S e) {off size : Fin S.rank → ℕ}
    (inb : ∀ a, off a + size a ≤ S.size a) (A : S.Idx → Elt F e) (w : (Rect.unit off size inb).shape.Idx → Elt F e) :
    (M.view.loc (c : Thread nD τ) ↦[M.view.set]{fullShare} M.view.writes (Elt F) (M.view.rep A) [⟨Rect.unit off size inb, w⟩])
      ⊢ (M.view.loc (c : Thread nD τ) ↦[M.view.set]{fullShare} M.view.rep (VecWindow.put A off size w) : sProp 𝕄) := by
  rw [← owns_eq_rep]
  unfold owns
  iintro H
  iexists _
  isplitr
  swap
  · iexact H
  · ipureintro; exact View.read_writes_rep_unit M.view A inb w rfl

/-- The main kernel's body at one grid point, over memrefs owning their values: the table, tokens and blocks are unchanged, and the
accumulator and the output are stepped. -/
theorem main_run (c : Dev nD) (i : grid1.Coords) (MT : Memref sig .tc .smem S128 .i32) (hT : MT.IsWhole)
    (M0 : Memref sig .tc .vmem S2048x128 .i32) (h0 : M0.IsWhole) (M1 : Memref sig .tc .vmem S2048x768 .bf16) (h1 : M1.IsWhole)
    (M2 : Memref sig .tc .vmem S1x3072x768 .f32) (h2 : M2.IsWhole) (M3 : Memref sig .tc .vmem S1x768x3072 .f32) (h3 : M3.IsWhole)
    (M4 : Memref sig .tc .vmem S8x768 .f32) (h4 : M4.IsWhole) (M5 : Memref sig .tc .vmem S8x768 .f32) (h5 : M5.IsWhole)
    (T : Vec F S128 .i32) (P : Vec F S2048x128 .i32) (X : Vec F S2048x768 .bf16) (W1 : Vec F S1x3072x768 .f32) (W2 : Vec F S1x768x3072 .f32)
    (O A : Vec F S8x768 .f32)
    (he : ∀ a, (k1_off3 (word T (i 0).val (Nat.lt_trans (i 0).isLt (by decide)))) a + S1x768.size a ≤ S8x768.size a) (E : Set ℕ) (Q : PUnit → sProp 𝕄) :
    iprop(owns (c : Thread nD τ) MT fullShare T ∗ owns (c : Thread nD τ) M0 fullShare P ∗ owns (c : Thread nD τ) M1 fullShare X
        ∗ owns (c : Thread nD τ) M2 fullShare W1 ∗ owns (c : Thread nD τ) M3 fullShare W2 ∗ owns (c : Thread nD τ) M4 fullShare O
        ∗ owns (c : Thread nD τ) M5 fullShare A
        ∗ (iprop(owns (c : Thread nD τ) MT fullShare T ∗ owns (c : Thread nD τ) M0 fullShare P ∗ owns (c : Thread nD τ) M1 fullShare X
        ∗ owns (c : Thread nD τ) M2 fullShare W1 ∗ owns (c : Thread nD τ) M3 fullShare W2 ∗ owns (c : Thread nD τ) M4 fullShare
          (outStep i (accStep i (word T 24 (by decide)) (word T (i 0).val (Nat.lt_trans (i 0).isLt (by decide))) he P X W1 W2 A) O)
        ∗ owns (c : Thread nD τ) M5 fullShare
          (accStep i (word T 24 (by decide)) (word T (i 0).val (Nat.lt_trans (i 0).isLt (by decide))) he P X W1 W2 A)) -∗ Q ⟨⟩))
      ⊢ wp frame (wpE (defs₀ (F := F)) Variants.none c none) E (cc1__main_kernel i MT hT M0 h0 M1 h1 M2 h2 M3 h3 M4 h4 M5 h5) Q := by
  rw [cc1__main_kernel_eq_skeleton]
  unfold cc1__main_kernel_skel
  rw [owns_eq_rep, owns_eq_rep, owns_eq_rep, owns_eq_rep, owns_eq_rep, owns_eq_rep, owns_eq_rep]
  iintro ⟨HT, H0, H1, H2, H3, H4, H5, Hk⟩
  sl_exec
  have hr : main_run.sl.r c MT T = word T 24 (by decide) := by
    delta main_run.sl.r
    rw [rd_part]
    unfold View.ld word
    congr 1
    funext a
    apply Fin.ext
    fin_cases a
    rfl
  have hr' : main_run.sl.v3 i = isFirst i := by
    delta main_run.sl.v3 main_run.sl.v2 main_run.sl.v1
    rfl
  rw [hr, hr', dite_eq_ite]
  ihave HA := (rep_if c M5 (isFirst i = 1#1) off2 inb_S8x768_S8x768_0_0 (M5.view.rep A) k1_pay1 A) $$ H5
  rw [show (if isFirst i = 1#1 then (k1_pay1 : Vec F S8x768 .f32) else A) = accZero i A from rfl]
  by_cases hc : k1_cond2 i (word T 24 (by decide)) = 1#1
  · rw [dif_pos hc]
    sl_exec
    have hr2 : main_run.sl.r_2 c i MT T = word T (i 0).val (Nat.lt_trans (i 0).isLt (by decide)) := by
      delta main_run.sl.r_2
      rw [rd_part]
      unfold View.ld word
      congr 1
      funext a
      apply Fin.ext
      fin_cases a
      show (k1_off2 i) 0 + 0 * 1 = (i 0).val
      rw [k1_off2_eq]
      rfl
    rw [hr2]
    have hk : k1_chk1 i (word T 24 (by decide)) (word T (i 0).val (Nat.lt_trans (i 0).isLt (by decide))) := fun _ => he
    sl_exec
    sl_step
    have hw : main_run.sl.HA_1 c i M0 M1 M2 M3 M5 T P X W1 W2 A hc hk
        = [⟨Rect.unit (k1_off3 (word T (i 0).val (Nat.lt_trans (i 0).isLt (by decide)))) S1x768.size he,
          accRow i (word T (i 0).val (Nat.lt_trans (i 0).isLt (by decide))) he P X W1 W2 (accZero i A)⟩] := by
      delta main_run.sl.HA_1
      delta main_run.sl.v42
      rw [rd_whole M1.view X off2, rd_whole M2.view W1 off3, rd_whole M3.view W2 off3, rd_part, rd_part, rd_part]
      rfl
    rw [hw]
    rw [View.readAt_full, View.read_writes_rep_unit _ _ _ _ rfl]
    rw [show accStep i (word T 24 (by decide)) (word T (i 0).val (Nat.lt_trans (i 0).isLt (by decide))) he P X W1 W2 A
      = VecWindow.put (accZero i A) (k1_off3 (word T (i 0).val (Nat.lt_trans (i 0).isLt (by decide)))) S1x768.size
        (accRow i (word T (i 0).val (Nat.lt_trans (i 0).isLt (by decide))) he P X W1 W2 (accZero i A)) from if_pos hc]
    rw [dite_eq_ite]
    ihave HB := (rep_if c M4 (k1_cond3 i = 1#1) off2 inb_S8x768_S8x768_0_0 (M4.view.rep O) _ O) $$ H4
    ihave HC := (rep_put c M5 _ (accZero i A) _) $$ HA
    iapply Hk
    isplitl [HT]; · iexact HT
    isplitl [H0]; · iexact H0
    isplitl [H1]; · iexact H1
    isplitl [H2]; · iexact H2
    isplitl [H3]; · iexact H3
    isplitl [HB]
    · rw [owns_eq_rep]; iexact HB
    · rw [owns_eq_rep]; iexact HC
  · rw [dif_neg hc]
    sl_exec
    sl_step
    iapply Hk
    rw [show accStep i (word T 24 (by decide)) (word T (i 0).val (Nat.lt_trans (i 0).isLt (by decide))) he P X W1 W2 A = accZero i A from
      if_neg hc]
    rw [dite_eq_ite, rd_whole _ _ off2]
    ihave HB := (rep_if c M4 (k1_cond3 i = 1#1) off2 inb_S8x768_S8x768_0_0 (M4.view.rep O) (accZero i A) O) $$ H4
    isplitl [HT]; · iexact HT
    isplitl [H0]; · iexact H0
    isplitl [H1]; · iexact H1
    isplitl [H2]; · iexact H2
    isplitl [H3]; · iexact H3
    isplitl [HB]
    · rw [owns_eq_rep]; iexact HB
    · rw [owns_eq_rep]; iexact HA

end Cert.KernelIdeal.Moe

end
-- ==== Proof.Ideal.MainRegion.lean ====
/-
  The main region: what its table, its windows and its accumulator hold at each of its twenty-four points, and the library's obligation
  for its body.
-/
module

public import proofs.«01_k».proof.Proof.Ideal.Main

@[expose] public section

noncomputable section

namespace Cert.KernelIdeal.Moe

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (V : (c : Dev nD) → (b : Ref sig .tc) → Buf (Elt F) ((c : Thread nD τ).loc b)) (a : (pcfg1 (F := F)).Adm)

/-- The prefetched table: the expert of each block, and the number of blocks. -/
abbrev tbl : Vec F S128 .i32 := a.1 0

/-- The word of the table for a grid point. -/
abbrev expertOf (i : grid1.Coords) : BitVec 32 := word (tbl a) (i 0).val (Nat.lt_trans (i 0).isLt (by decide))

/-- What the index maps read of a table is its word for the grid point. -/
theorem transform2_of (pf : pre1.Contents (Elt F)) (i : grid1.Coords) :
    cc1_transform_2 k1_off1_inb numel1_S1 pf i
      = ![(word (F := F) (show Vec F S128 .i32 from pf 0) (i 0).val (Nat.lt_trans (i 0).isLt (by decide))).toNat, 0, 0] := by
  have h : pf.at 0 (Rect.unit (s := S128) ![(Scalar.indexCast (BitVec.ofNat 32 (i 0).val)).toNat] S1.size (k1_off1_inb i)) numel1_S1
      = word (F := F) (show Vec F S128 .i32 from pf 0) (i 0).val (Nat.lt_trans (i 0).isLt (by decide)) := by
    unfold Pipeline.Prefetch.Contents.at word
    refine congrArg (pf 0) (funext fun b => Fin.ext ?_)
    fin_cases b
    show k1_off1 i 0 + 1 * 0 = (i 0).val
    rw [k1_off1_eq]
    rfl
  unfold cc1_transform_2
  simp only []
  rw [h]
  rfl
/-- A grid point reads the first weights at its table entry's expert. -/
theorem transform2_eq (i : grid1.Coords) : cc1_transform_2 k1_off1_inb numel1_S1 a.1 i = ![(expertOf a i).toNat, 0, 0] := transform2_of a.1 i
/-- A grid point reads the second weights at its table entry's expert. -/
theorem transform3_eq (i : grid1.Coords) : cc1_transform_3 k1_off1_inb numel1_S1 a.1 i = ![(expertOf a i).toNat, 0, 0] :=
  (show cc1_transform_3 k1_off1_inb numel1_S1 a.1 i = cc1_transform_2 k1_off1_inb numel1_S1 a.1 i from rfl).trans (transform2_eq a i)

/-- An admissible table names an expert at every grid point, so the accumulator's row exists. -/
theorem expert_lt (i : grid1.Coords) : (expertOf a i).toNat < 8 := by
  obtain ⟨h, -⟩ := a.2.1 i
  have h0 := h 0
  rw [transform2_eq] at h0
  have h1 : ((expertOf a i).toNat + 1) * 1 ≤ 8 := h0
  omega
/-- The accumulator's row of a grid point's expert lies within the accumulator. -/
theorem row_ok (i : grid1.Coords) : ∀ b, (k1_off3 (expertOf a i)) b + S1x768.size b ≤ S8x768.size b := by
  intro b
  have := expert_lt a i
  fin_cases b
  · show (expertOf a i).toNat + 1 ≤ 8
    omega
  · show 0 + 768 ≤ 768
    omega

/-- The windows' blocks at point `t`: the positions, the tokens, and the two weights of the block's expert. -/
abbrev posBlk (c : Dev nD) (t : Fin (cfg1 a).N) : Vec F S2048x128 .i32 := (((cfg1 a).win 0).blk t).view.read (Elt F) (V c main_call0_v4_1)
/-- The tokens, as a grid point reads them. -/
abbrev tokBlk (c : Dev nD) (t : Fin (cfg1 a).N) : Vec F S2048x768 .bf16 := (((cfg1 a).win 1).blk t).view.read (Elt F) (V c main_call0_v4_3)
/-- The first weights of a grid point's expert. -/
abbrev upBlk (c : Dev nD) (t : Fin (cfg1 a).N) : Vec F S1x3072x768 .f32 := (((cfg1 a).win 2).blk t).view.read (Elt F) (V c main_arg2)
/-- The second weights of a grid point's expert. -/
abbrev downBlk (c : Dev nD) (t : Fin (cfg1 a).N) : Vec F S1x768x3072 .f32 := (((cfg1 a).win 3).blk t).view.read (Elt F) (V c main_arg3)

/-- The accumulator after point `t`, from what it held before. -/
def stepAt (c : Dev nD) (t : Fin (cfg1 a).N) (A : Vec F S8x768 .f32) : Vec F S8x768 .f32 :=
  accStep (grid1.coords t) (word (tbl a) 24 (by decide)) (expertOf a (grid1.coords t)) (row_ok a _)
    (posBlk V a c t) (tokBlk V a c t) (upBlk V a c t) (downBlk V a c t) A

/-- The accumulator before point `n` (before the first its contents do not matter: zero here). -/
def accAt (c : Dev nD) : ℕ → Vec F S8x768 .f32
  | 0 => k1_pay1
  | n + 1 => if h : n < (cfg1 a).N then stepAt V a c ⟨n, h⟩ (accAt c n) else accAt c n

/-- The accumulator after a grid point is that point's step on the accumulator before it. -/
theorem accAt_succ (c : Dev nD) (t : Fin (cfg1 a).N) : accAt V a c (t.val + 1) = stepAt V a c t (accAt V a c t.val) := by
  rw [accAt, dif_pos t.isLt]

/-- The first condition holds at the first grid point alone. -/
theorem isFirst_iff : ∀ t : Fin grid1.N, isFirst (grid1.coords t) = 1#1 ↔ t.val = 0 := by decide +kernel
/-- The last condition holds at the last grid point alone. -/
theorem cond3_iff : ∀ t : Fin grid1.N, k1_cond3 (grid1.coords t) = 1#1 ↔ t.val = 23 := by decide +kernel

/-- At the first point the step forgets what the accumulator held. -/
theorem stepAt_zero (c : Dev nD) (t : Fin (cfg1 a).N) (h : t.val = 0) (A B : Vec F S8x768 .f32) : stepAt V a c t A = stepAt V a c t B := by
  unfold stepAt accStep accZero
  rw [if_pos ((isFirst_iff t).2 h), if_pos ((isFirst_iff t).2 h)]

/-- A scoped buffer held at some contents. -/
abbrev scr (c : Dev nD) (b : Ref sig .tc) : sProp 𝕄 := iprop(∃ f : Buf (Elt F) ((c : Thread nD τ).loc b), ((c : Thread nD τ).loc b) ↦{fullShare} f)

/-- The scoped buffers that are neither staged by the region nor its accumulator. -/
def others (c : Dev nD) : sProp 𝕄 :=
  iprop(scr c cc0_stg0_0 ∗ scr c cc0_stg1_0 ∗ scr c cc0_stg2_0 ∗ scr c cc0_stg3_0 ∗ scr c cc0_stg4_0 ∗ scr c cc0_stg5_0
    ∗ scr c cc2_stg0_0 ∗ scr c cc2_stg0_1 ∗ scr c cc2_stg1_0 ∗ scr c cc2_stg2_0 ∗ scr c cc2_stg2_1)

/-- The region's scratch splits into the accumulator and the rest. -/
theorem rest_split (c : Dev nD) :
    (Pipeline.scopedRest (Ix := Unit) (Name := ℕ) (U := UU) (Lvl := ℕ) (Val := Elt F) spec1 c : sProp 𝕄) ⊢ iprop(others c ∗ scr c cc1_scratch0) := by
  rw [scopedRest1_eq]
  unfold others
  iintro ⟨H0, H1, H2, H3, H4, H5, H6, H7, H8, H9, Ha, Hb⟩
  isplitr [H6]
  · iframe
  · iexact H6
/-- The accumulator and the rest join into the region's scratch. -/
theorem rest_join (c : Dev nD) :
    iprop(others c ∗ scr c cc1_scratch0) ⊢ (Pipeline.scopedRest (Ix := Unit) (Name := ℕ) (U := UU) (Lvl := ℕ) (Val := Elt F) spec1 c : sProp 𝕄) := by
  rw [scopedRest1_eq]
  unfold others
  iintro ⟨⟨H0, H1, H2, H3, H4, H5, H7, H8, H9, Ha, Hb⟩, H6⟩
  iframe

/-- Between the points: the other scoped buffers, the table, and the accumulator at what the points so far left. -/
def inv (c : Dev nD) (n : ℕ) : sProp 𝕄 :=
  iprop(others c ∗ owns (c : Thread nD τ) (Memref.whole main_call0_v5) fullShare (tbl a)
    ∗ ∃ A : Vec F S8x768 .f32, ⌜0 < n → A = accAt V a c n⌝ ∗ owns (c : Thread nD τ) (Memref.whole cc1_scratch0) fullShare A)

/-- The main region entered with the unscoped buffers at `V` and the table at `a`. -/
def dat1 (c : Dev nD) : Dat τ (Elt F) Unit ℕ UU ℕ (cfg1 a) c where
  A w := V c (Pipeline.arrRef spec1 w)
  after w t := match w with
    | ⟨0, _⟩ => posBlk V a c t
    | ⟨1, _⟩ => tokBlk V a c t
    | ⟨2, _⟩ => upBlk V a c t
    | ⟨3, _⟩ => downBlk V a c t
    | ⟨4, _⟩ => accAt V a c (t.val + 1)
  Φ t := inv V a c t.val
  q _ := fullShare
  owed _ := 0

/-- Before its body runs, a grid point's first staging buffer holds the positions. -/
theorem before1_0 (c : Dev nD) (t : Fin (cfg1 a).N) (d) : (dat1 V a c).before (0 : Fin 5) t d = posBlk V a c t :=
  (dat1 V a c).before_in_eq_fetched 0 rfl (fun _ => rfl) (fun _ _ _ => rfl) (fun _ => rfl) t d
/-- Before its body runs, a grid point's second staging buffer holds the tokens. -/
theorem before1_1 (c : Dev nD) (t : Fin (cfg1 a).N) (d) : (dat1 V a c).before (1 : Fin 5) t d = tokBlk V a c t :=
  (dat1 V a c).before_in_eq_fetched 1 rfl (fun _ => rfl) (fun _ _ _ => rfl) (fun _ => rfl) t d
/-- Before its body runs, a grid point's third staging buffer holds its expert's first weights. -/
theorem before1_2 (c : Dev nD) (t : Fin (cfg1 a).N) (d) : (dat1 V a c).before (2 : Fin 5) t d = upBlk V a c t :=
  (dat1 V a c).before_in_eq_fetched 2 rfl (fun _ => rfl) (fun _ _ _ => rfl) (fun _ => rfl) t d
/-- Before its body runs, a grid point's fourth staging buffer holds its expert's second weights. -/
theorem before1_3 (c : Dev nD) (t : Fin (cfg1 a).N) (d) : (dat1 V a c).before (3 : Fin 5) t d = downBlk V a c t :=
  (dat1 V a c).before_in_eq_fetched 3 rfl (fun _ => rfl) (fun _ _ _ => rfl) (fun _ => rfl) t d

/-- The output is written back at the last point only. -/
theorem flush_4 (t : Fin (cfg1 a).N) (h : t.val ≠ 23) : ((cfg1 a).win (4 : Fin 5)).flush t = false := by
  unfold Pipeline.Window.flush
  have h1 : ¬ (t.val + 1 = 24) := by omega
  have h2 : ¬ ((cfg1 a).N = t.val + 1) := by show ¬ (grid1.N = _); rw [N_1]; omega
  rw [decide_eq_false (fun h => h2 h.symm)]
  rw [decide_eq_false]
  · rfl
  · rintro ⟨_, h⟩
    exact h rfl

/-- The body at every point: the blocks are unchanged, the accumulator is stepped, and at the last point the output gets it. -/
theorem body1 (c : Dev nD) : BodyObligation (dat1 V a c) (defs₀ (F := F)) Variants.none () Set.univ := fun t => by
  rw [bigSep_W1, bigSep_W1]
  rw [show (dat1 V a c).Φ t.castSucc = inv V a c t.val from rfl, show (dat1 V a c).Φ t.succ = inv V a c (t.val + 1) from rfl,
    show (dat1 V a c).owesAt () t.succ = (dat1 V a c).owesAt () t.castSucc from rfl]
  unfold inv
  iintro ⟨⟨Hoth, HT, ⟨%A, %hA, HA⟩⟩, Howes, ⟨%d0, H0⟩, ⟨%d1, H1⟩, ⟨%d2, H2⟩, ⟨%d3, H3⟩, ⟨%d4, H4⟩⟩
  rw [before1_0, before1_1, before1_2, before1_3]
  have hs : stepAt V a c t A = accAt V a c (t.val + 1) := by
    rw [accAt_succ]
    rcases Nat.eq_zero_or_pos t.val with h | h
    · exact stepAt_zero V a c t h _ _
    · rw [hA h]
  iapply (main_run c (grid1.coords t) (Memref.whole main_call0_v5) (Memref.isWhole_whole _)
    _ (hstage1_0 (((cfg1 a).slots t 0).cast nbuf1_0)) _ (hstage1_1 (((cfg1 a).slots t 1).cast nbuf1_1))
    _ (hstage1_2 (((cfg1 a).slots t 2).cast nbuf1_2)) _ (hstage1_3 (((cfg1 a).slots t 3).cast nbuf1_3))
    _ (hstage1_4 (((cfg1 a).slots t 4).cast nbuf1_4)) (Memref.whole cc1_scratch0) (Memref.isWhole_whole _)
    (tbl a) (posBlk V a c t) (tokBlk V a c t) (upBlk V a c t) (downBlk V a c t) _ A (row_ok a _) Set.univ _)
  isplitl [HT]; · iexact HT
  isplitl [H0]; · iexact H0
  isplitl [H1]; · iexact H1
  isplitl [H2]; · iexact H2
  isplitl [H3]; · iexact H3
  isplitl [H4]; · iexact H4
  isplitl [HA]; · iexact HA
  iintro ⟨HT, H0, H1, H2, H3, H4, HA⟩
  isplitl [Hoth HT HA]
  · isplitl [Hoth]; · iexact Hoth
    isplitl [HT]; · iexact HT
    iexists _
    isplitr
    swap
    · iexact HA
    · ipureintro
      intro _
      exact hs
  isplitl [Howes]; · iexact Howes
  isplitl [H0]; · iexact H0
  isplitl [H1]; · iexact H1
  isplitl [H2]; · iexact H2
  isplitl [H3]; · iexact H3
  by_cases h23 : t.val = 23
  · have hc : k1_cond3 (grid1.coords t) = 1#1 := (cond3_iff t).2 h23
    rw [show (cfg1 a).idle (4 : Fin 5) ((cfg1 a).grid.coords t) = false from by
      show (!(k1_cond3 (grid1.coords t) == 1#1)) = false
      rw [hc]; rfl]
    rw [outStep, if_pos hc]
    rw [show (dat1 V a c).after (4 : Fin 5) t = accAt V a c (t.val + 1) from rfl, ← hs]
    iexact H4
  · have hc : ¬ k1_cond3 (grid1.coords t) = 1#1 := fun h => h23 ((cond3_iff t).1 h)
    rw [show (cfg1 a).idle (4 : Fin 5) ((cfg1 a).grid.coords t) = true from by
      show (!(k1_cond3 (grid1.coords t) == 1#1)) = true
      rw [beq_eq_false_iff_ne.2 hc]; rfl]
    rw [flush_4 a t h23]
    rw [outStep, if_neg hc]
    iexists d4
    iexact H4

end Cert.KernelIdeal.Moe

end
-- ==== Proof.Ideal.Table.lean ====
/-
  The table the routing region leaves names an expert at every grid point of the main region, so it is one
  the main region admits.
-/
module

public import proofs.«01_k».proof.Proof.Ideal.RoutingRegion
public import proofs.«01_k».proof.Proof.Ideal.MainRegion
public import Idealize.ShloMosaic.Lib.ValueLayout
public import Idealize.ShloMosaic.Lib.Pointwise

@[expose] public section

noncomputable section

namespace Cert.KernelIdeal.Moe

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

/-- A table of one word per grid point, each below eight, is admissible. -/
theorem ok1_of_lt (pf : pre1.Contents (Elt F))
    (h : ∀ i : grid1.Coords, (word (F := F) (show Vec F S128 .i32 from pf 0) (i 0).val (Nat.lt_trans (i 0).isLt (by decide))).toNat < 8) : ok1 pf := by
  refine ⟨fun i => ⟨fun b => ?_, .inl rfl⟩, fun i => ⟨fun b => ?_, .inl rfl⟩⟩
  · rw [transform2_of pf i]
    have := h i
    fin_cases b
    · show (BitVec.toNat _ + 1) * 1 ≤ 8
      omega
    · show (0 + 1) * 3072 ≤ 3072
      omega
    · show (0 + 1) * 768 ≤ 768
      omega
  · rw [show cc1_transform_3 k1_off1_inb numel1_S1 pf i = cc1_transform_2 k1_off1_inb numel1_S1 pf i from rfl, transform2_of pf i]
    have := h i
    fin_cases b
    · show (BitVec.toNat _ + 1) * 1 ≤ 8
      omega
    · show (0 + 1) * 768 ≤ 768
      omega
    · show (0 + 1) * 3072 ≤ 3072
      omega

/-- A word clamped to the range from zero to seven. -/
theorem clamp_lt (w : BitVec 32) : (Scalar.minsi 7#32 (Scalar.maxsi 0#32 w)).toNat < 8 := by
  show (IntOp.minsi 7#32 (IntOp.maxsi 0#32 w)).toNat < 8
  have h7 : (7#32).toInt = 7 := by decide
  have h0 : (0#32).toInt = 0 := by decide
  unfold IntOp.minsi IntOp.maxsi
  rw [BitVec.slt, BitVec.slt, h7, h0]
  have hw := BitVec.toInt_eq_toNat_cond w
  have hl := w.isLt
  split_ifs with h1 h2 h2
  all_goals simp only [decide_eq_true_eq, h0] at *
  all_goals first | decide | (split_ifs at hw <;> omega)

/-- Away from its last word, the blocks' table holds a number below eight. -/
theorem blkE_lt (X : Vec F S2048x768 .f32) (G : Vec F S128x768 .f32) (j : S1x128.Idx) : (blkE X G j).toNat < 8 := by
  unfold blkE k0_pay51
  exact clamp_lt _

/-- Away from lane 24 the table is the table of the blocks' experts. -/
theorem beT_of_ne (X : Vec F S2048x768 .f32) (G : Vec F S128x768 .f32) (j : S1x128.Idx) (h : (j 1).val ≠ 24) : beT X G j = blkE X G j := by
  unfold beT k0_pay1
  show (if IntOp.cmpi .eq (iota .tc S1x128 32 [1] iota_S1x128_d1_w32 j) (24#32) = 1#1 then _ else _) = _
  refine if_neg fun hc => h ?_
  have hi : iota .tc S1x128 32 [1] iota_S1x128_d1_w32 j = BitVec.ofNat 32 (j 1).val := by
    rw [iota_apply]; simp
  rw [hi] at hc
  have hl : (j 1).val < 128 := (j 1).isLt
  have e : BitVec.ofNat 32 (j 1).val = 24#32 := by
    unfold IntOp.cmpi at hc
    by_contra hn
    rw [show (BitVec.ofNat 32 (j 1).val == 24#32) = false from beq_eq_false_iff_ne.2 hn] at hc
    exact absurd (show BitVec.ofBool false = 1#1 from hc) (by decide)
  have := congrArg BitVec.toNat e
  rw [BitVec.toNat_ofNat, Nat.mod_eq_of_lt (by omega)] at this
  exact this

/-- Before lane 24 the table holds experts. -/
theorem beT_lt (X : Vec F S2048x768 .f32) (G : Vec F S128x768 .f32) (j : S1x128.Idx) (h : (j 1).val < 24) : (beT X G j).toNat < 8 := by
  rw [beT_of_ne X G j (by omega)]; exact blkE_lt X G j

end Cert.KernelIdeal.Moe

end
-- ==== Proof.Ideal.Combine.lean ====
module

public import proofs.«01_k».proof.Proof.Ideal.Common

@[expose] public section

noncomputable section

namespace Cert.KernelIdeal.Moe

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

/-- The combining body on any staging memrefs: it leaves in its output tile the product of the first eight
    columns of the weights with the experts' rows. -/
theorem combine_run (c : Dev nD) (i : grid2.Coords) (M0 : Memref sig .tc .vmem S512x128 .f32) (h0 : M0.IsWhole)
    (M1 : Memref sig .tc .vmem S8x768 .f32) (h1 : M1.IsWhole) (M2 : Memref sig .tc .vmem S512x768 .f32) (h2 : M2.IsWhole)
    (X0 : Vec F S512x128 .f32) (X1 : Vec F S8x768 .f32) (X2 : Vec F S512x768 .f32) (E : Set ℕ) (Q : PUnit → sProp 𝕄) :
    iprop(owns (c : Thread nD τ) M0 fullShare X0 ∗ owns (c : Thread nD τ) M1 fullShare X1 ∗ owns (c : Thread nD τ) M2 fullShare X2
        ∗ (iprop(owns (c : Thread nD τ) M0 fullShare X0 ∗ owns (c : Thread nD τ) M1 fullShare X1
          ∗ owns (c : Thread nD τ) M2 fullShare
              (k2_pay1 (View.ld X0 (Rect.unit (s := S512x128) ![0, 0] S512x8.size inb_S512x128_S512x8_0_0)) X1)) -∗ Q ⟨⟩))
      ⊢ wp frame (wpE (defs₀ (F := F)) Variants.none c none) E (cc2__combine_kernel i M0 h0 M1 h1 M2 h2) Q := by
  rw [cc2__combine_kernel_eq_skeleton]
  rw [owns_eq_rep, owns_eq_rep, owns_eq_rep]
  iintro ⟨H0, H1, H2, Hk⟩
  sl_exec
  sl_step
  iapply Hk
  isplitl [H0]; · iexact H0
  isplitl [H1]; · iexact H1
  rw [rd_part, rd_whole _ _ off2]
  iapply (owns_stored c M2 off2 inb_S512x768_S512x768_0_0 _ _)
  iexact H2

end Cert.KernelIdeal.Moe

end
-- ==== Proof.Ideal.CombineRegion.lean ====
/-
  The combining region (its grid has four points): what its windows hold at each point, and the library's
  obligation for its body.
-/
module

public import proofs.«01_k».proof.Proof.Ideal.Combine

@[expose] public section

noncomputable section

namespace Cert.KernelIdeal.Moe

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (V : (c : Dev nD) → (b : Ref sig .tc) → Buf (Elt F) ((c : Thread nD τ).loc b))

/-- The tile of the weights at point `t`, and the experts' rows. -/
abbrev cTile (c : Dev nD) (t : Fin cfg2.N) : Vec F S512x128 .f32 := ((cfg2.win 0).blk t).view.read (Elt F) (V c main_call0_v4_0)
/-- The array of expert sums, as a grid point of the combining region reads it. -/
abbrev mTile (c : Dev nD) (t : Fin cfg2.N) : Vec F S8x768 .f32 := ((cfg2.win 1).blk t).view.read (Elt F) (V c main_call0_v6)

/-- What the body leaves in its output tile at point `t`. -/
def outTile (c : Dev nD) (t : Fin cfg2.N) : Vec F S512x768 .f32 :=
  k2_pay1 (View.ld (cTile V c t) (Rect.unit (s := S512x128) ![0, 0] S512x8.size inb_S512x128_S512x8_0_0)) (mTile V c t)

/-- The scoped buffers the region does not stage: its invariant between the points. -/
abbrev Φ2 (c : Dev nD) : sProp 𝕄 := Pipeline.scopedRest (Ix := Unit) (Name := ℕ) (U := UU) (Lvl := ℕ) (Val := Elt F) spec2 c

/-- The combining region entered with the unscoped buffers at `V`. -/
def dat2 (c : Dev nD) : Dat τ (Elt F) Unit ℕ UU ℕ cfg2 c where
  A w := V c (Pipeline.arrRef spec2 w)
  after w t := match w with
    | ⟨0, _⟩ => cTile V c t
    | ⟨1, _⟩ => mTile V c t
    | ⟨2, _⟩ => outTile V c t
  Φ _ := Φ2 c
  q _ := fullShare
  owed _ := 0

/-- Before its body runs, a grid point's first staging buffer holds its tile of weights. -/
theorem before2_0 (c : Dev nD) (t : Fin cfg2.N) (d) : (dat2 V c).before 0 t d = cTile V c t :=
  (dat2 V c).before_in_eq_fetched 0 rfl (fun _ => rfl) (fun _ _ _ => rfl) (fun _ => rfl) t d
/-- Before its body runs, a grid point's second staging buffer holds the expert sums. -/
theorem before2_1 (c : Dev nD) (t : Fin cfg2.N) (d) : (dat2 V c).before 1 t d = mTile V c t :=
  (dat2 V c).before_in_eq_fetched 1 rfl (fun _ => rfl) (fun _ _ _ => rfl) (fun _ => rfl) t d

/-- The body at every point: from the staged tiles it leaves the output tile. -/
theorem body2 (c : Dev nD) : BodyObligation (dat2 V c) (defs₀ (F := F)) Variants.none () Set.univ := fun t => by
  rw [bigSep_W2, bigSep_W2]
  rw [show (dat2 V c).Φ t.castSucc = Φ2 c from rfl, show (dat2 V c).Φ t.succ = Φ2 c from rfl,
    show (dat2 V c).owesAt () t.succ = (dat2 V c).owesAt () t.castSucc from rfl]
  iintro ⟨HΦ, Howes, ⟨%d0, H0⟩, ⟨%d1, H1⟩, ⟨%d2, H2⟩⟩
  rw [before2_0, before2_1]
  iapply (combine_run c (grid2.coords t) _ (hstage2_0 ((cfg2.slots t 0).cast nbuf2_0)) _ (hstage2_1 ((cfg2.slots t 1).cast nbuf2_1)) _ (hstage2_2 ((cfg2.slots t 2).cast nbuf2_2)) (cTile V c t) (mTile V c t) _ Set.univ _)
  isplitl [H0]; · iexact H0
  isplitl [H1]; · iexact H1
  isplitl [H2]; · iexact H2
  iintro ⟨H0, H1, H2⟩
  isplitl [HΦ]; · iexact HΦ
  isplitl [Howes]; · iexact Howes
  isplitl [H0]; · iexact H0
  isplitl [H1]; · iexact H1
  iexact H2

end Cert.KernelIdeal.Moe

end
-- ==== Proof.Ideal.Chain.lean ====
/-
  The buffers' contents between @main's items: after the routing region, the host's reshape of the blocks' table,
  the main region and the combining region, each from the contents before it.
-/
module

public import proofs.«01_k».proof.Proof.Ideal.RoutingArrays
public import proofs.«01_k».proof.Proof.Ideal.Table
public import proofs.«01_k».proof.Proof.Ideal.CombineRegion

@[expose] public section

noncomputable section

namespace Cert.KernelIdeal.Moe

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ)

/-- A device's contents read at the tensor core's references. -/
abbrev asRefs (V : Dev nD → Valuation τ sig (Elt F)) : (c : Dev nD) → (b : Ref sig .tc) → Buf (Elt F) ((c : Thread nD τ).loc b) :=
  fun c b => V c (Proc.devRef .tc b)

/-- The contents after the routing region: its four arrays at what it leaves. -/
def U2 (c : Dev nD) : Valuation τ sig (Elt F) :=
  Function.update (Function.update (Function.update (Function.update (V1 m c) main_call0_v4_0 ((dat0 (asRefs (V1 m)) c).arrAt 2 cfg0.N))
    main_call0_v4_1 ((dat0 (asRefs (V1 m)) c).arrAt 3 cfg0.N)) main_call0_v4_2 ((dat0 (asRefs (V1 m)) c).arrAt 4 cfg0.N))
    main_call0_v4_3 ((dat0 (asRefs (V1 m)) c).arrAt 5 cfg0.N)
/-- The contents the main region is entered with. -/
def U3 (c : Dev nD) : Valuation τ sig (Elt F) := StableHlo.after hostOps1 (U2 m c)

/-- After the routing region its first result is the routing region's array of combining weights. -/
theorem U2_0 (c : Dev nD) : U2 m c main_call0_v4_0 = (dat0 (asRefs (V1 m)) c).arrAt 2 cfg0.N := by
  unfold U2
  rw [Function.update_of_ne (StableHlo.devRef_ne_of_ne (by decide)), Function.update_of_ne (StableHlo.devRef_ne_of_ne (by decide)),
    Function.update_of_ne (StableHlo.devRef_ne_of_ne (by decide)), Function.update_self]
/-- After the routing region its second result is the routing region's array of positions. -/
theorem U2_1 (c : Dev nD) : U2 m c main_call0_v4_1 = (dat0 (asRefs (V1 m)) c).arrAt 3 cfg0.N := by
  unfold U2
  rw [Function.update_of_ne (StableHlo.devRef_ne_of_ne (by decide)), Function.update_of_ne (StableHlo.devRef_ne_of_ne (by decide)),
    Function.update_self]
/-- After the routing region its third result is the routing region's table of blocks. -/
theorem U2_2 (c : Dev nD) : U2 m c main_call0_v4_2 = (dat0 (asRefs (V1 m)) c).arrAt 4 cfg0.N := by
  unfold U2
  rw [Function.update_of_ne (StableHlo.devRef_ne_of_ne (by decide)), Function.update_self]
/-- After the routing region its fourth result is the routing region's copy of the tokens. -/
theorem U2_3 (c : Dev nD) : U2 m c main_call0_v4_3 = (dat0 (asRefs (V1 m)) c).arrAt 5 cfg0.N := by
  unfold U2
  rw [Function.update_self]

/-- Off its four arrays the routing region changes nothing. -/
theorem U2_of (c : Dev nD) (b : DevRef τ sig) (h0 : b ≠ Proc.devRef .tc main_call0_v4_0) (h1 : b ≠ Proc.devRef .tc main_call0_v4_1)
    (h2 : b ≠ Proc.devRef .tc main_call0_v4_2) (h3 : b ≠ Proc.devRef .tc main_call0_v4_3) : U2 m c b = V1 m c b := by
  unfold U2
  rw [Function.update_of_ne h3, Function.update_of_ne h2, Function.update_of_ne h1, Function.update_of_ne h0]

/-- The prefetched table is the blocks' table, its unit axis dropped. -/
theorem U3_table (c : Dev nD) : U3 m c main_call0_v5
    = (shapeCast S128 (beT (V1 m c main_call0_v0) (V1 m c main_call0_v3)) shapeCasts_S1x128_S128 : Vec F S128 .i32) := by
  unfold U3
  rw [StableHlo.after_cons, StableHlo.after_nil, StableHlo.TRef.reshape, StableHlo.reshape_result]
  have h := (U2_2 m c).trans (arr0_4 (asRefs (V1 m)) c)
  show (shapeCast S128 (U2 m c main_call0_v4_2) shapeCasts_S1x128_S128 : Vec F S128 .i32) = _
  rw [h]

/-- Off the table the host's reshape changes nothing. -/
theorem U3_of (c : Dev nD) (r : Ref sig .tc) (h : r ∉ hostOps1_W) : U3 m c r = U2 m c r :=
  StableHlo.after_of_writes_sub hostOps1 _ hostOps1_writes h

/-- A word of the table for a grid point is below eight. -/
theorem table_lt (c : Dev nD) (k : ℕ) (hk : k < 24) (hk' : k < 128) :
    (word (F := F) (show Vec F S128 .i32 from U3 m c main_call0_v5) k hk').toNat < 8 := by
  rw [U3_table]
  unfold word
  refine lt_of_eq_of_lt (congrArg BitVec.toNat (shapeCast_apply _ _ _ (ValueIdx.ix2 (0 : Fin 1) (⟨k, hk'⟩ : Fin 128)) ?_)) (beT_lt _ _ _ hk)
  rw [Shape.rowMajor_val_two, Shape.rowMajor_val_one]
  show 0 * 128 + k = k
  omega

/-- The tables of the three regions: none, the blocks' table, none. -/
def adm : (p : Fin 3) → (pcfgs (F := F) p).Adm := fun
  | ⟨0, _⟩ => cfg0.toPCfg_adm
  | ⟨1, _⟩ => ⟨fun k => U3 m 0 (Proc.devRef .tc (pre1.ref k)), ok1_of_lt _ fun i => table_lt m 0 _ (i 0).isLt _⟩
  | ⟨2, _⟩ => cfg2.toPCfg_adm
  | ⟨_ + 3, h⟩ => absurd h (Nat.not_lt.2 (Nat.le_add_left _ _))
/-- The main region's table, admissible. -/
abbrev adm1 : (pcfg1 (F := F)).Adm := adm m 1

/-- The contents after the main region, and after the combining region. -/
def U4 (c : Dev nD) : Valuation τ sig (Elt F) :=
  Function.update (U3 m c) main_call0_v6 ((dat1 (asRefs (U3 m)) (adm1 m) c).arrAt (4 : Fin 5) (cfg1 (adm1 m)).N)
/-- The contents after the combining region. -/
def U5 (c : Dev nD) : Valuation τ sig (Elt F) :=
  Function.update (U4 m c) main_call0_v7 ((dat2 (asRefs (U4 m)) c).arrAt 2 cfg2.N)

/-- After the main region its result is the main region's last array. -/
theorem U4_6 (c : Dev nD) : U4 m c main_call0_v6 = (dat1 (asRefs (U3 m)) (adm1 m) c).arrAt (4 : Fin 5) (cfg1 (adm1 m)).N := by
  unfold U4
  rw [Function.update_self]
/-- The main region leaves every other buffer as it was. -/
theorem U4_of (c : Dev nD) (b : DevRef τ sig) (h : b ≠ Proc.devRef .tc main_call0_v6) : U4 m c b = U3 m c b := by
  unfold U4
  rw [Function.update_of_ne h]
/-- After the combining region its result is the combining region's last array. -/
theorem U5_7 (c : Dev nD) : U5 m c main_call0_v7 = (dat2 (asRefs (U4 m)) c).arrAt 2 cfg2.N := by
  unfold U5
  rw [Function.update_self]
/-- The combining region leaves every other buffer as it was. -/
theorem U5_of (c : Dev nD) (b : DevRef τ sig) (h : b ≠ Proc.devRef .tc main_call0_v7) : U5 m c b = U4 m c b := by
  unfold U5
  rw [Function.update_of_ne h]

/-- What the regions leave, as the launch's account of @main reads it. -/
def outs : Outs (F := F) := fun J r c => if J = 2 then U2 m c r else if J = 4 then U4 m c r else U5 m c r

/-- The program's contents after the routing region are those named here. -/
theorem V2_eq (c : Dev nD) : V2 m (outs m) c = U2 m c := by
  show Function.update (Function.update (Function.update (Function.update (V1 m c) main_call0_v4_0 (U2 m c main_call0_v4_0))
    main_call0_v4_1 (U2 m c main_call0_v4_1)) main_call0_v4_2 (U2 m c main_call0_v4_2)) main_call0_v4_3 (U2 m c main_call0_v4_3) = _
  rw [U2_0, U2_1, U2_2, U2_3, U2]
/-- The program's contents after the table is reshaped are those named here. -/
theorem V3_eq (c : Dev nD) : V3 m (outs m) c = U3 m c := by
  unfold V3 U3
  rw [V2_eq]
/-- The program's contents after the main region are those named here. -/
theorem V4_eq (c : Dev nD) : V4 m (outs m) c = U4 m c := by
  have h : outs m 4 main_call0_v6 c = U4 m c main_call0_v6 := by
    unfold outs
    rw [if_neg (by decide), if_pos rfl]
  unfold V4
  rw [V3_eq, h, U4_6, U4]
/-- The program's contents after the combining region are those named here. -/
theorem V5_eq (c : Dev nD) : V5 m (outs m) c = U5 m c := by
  have h : outs m 5 main_call0_v7 c = U5 m c main_call0_v7 := by
    unfold outs
    rw [if_neg (by decide), if_neg (by decide)]
  unfold V5
  rw [V4_eq, h, U5_7, U5]

end Cert.KernelIdeal.Moe

end
-- ==== Proof.Ideal.Records.lean ====
/-
  The three regions as segments of @main: each is entered with the unscoped buffers at the contents before it and
  leaves them at the contents after it.
-/
module

public import proofs.«01_k».proof.Proof.Ideal.Chain
public import Idealize.ShloMosaic.Lib.Pipeline.RegionArrays
public import Idealize.ShloMosaic.Lib.Pipeline.RegionArraysT

@[expose] public section

noncomputable section

namespace Cert.KernelIdeal.Moe

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

open Idealize.ShloMosaic.Pipeline (RegionSeg)

variable (m : (ℓ : Loc nD τ sig) → Buf (Elt F) ℓ)

/-- The regions' proof data. -/
def pdats : (p : Fin 3) → (c : Dev nD) → Dat τ (Elt F) Unit ℕ UU ℕ (Pipeline.pin (pcfgs (F := F)) (adm m) p) c := fun
  | ⟨0, _⟩ => dat0 (asRefs (V1 m))
  | ⟨1, _⟩ => dat1 (asRefs (U3 m)) (adm1 m)
  | ⟨2, _⟩ => dat2 (asRefs (U4 m))
  | ⟨_ + 3, h⟩ => absurd h (Nat.not_lt.2 (Nat.le_add_left _ _))

/-- Beside the buffers a core carries only that it owes nothing. -/
abbrev idle (c : Dev nD) : sProp 𝕄 := iprop(∃ W, owes (c : Thread nD τ) (0 : CellTallies nD τ sig Unit) W)

/-- Every staging cell is on the one level, and nothing is owed. -/
theorem cut (p : Fin 3) : Pipeline.LevelCut (pcfgs (F := F)) (adm m) () L lv p (fun _ : Dev nD => (0 : CellTallies nD τ sig Unit)) (fun _ => 0) where
  hι c w s := by show () ∈ (if _ = _ then _ else _); rw [if_pos rfl]; exact Finset.mem_singleton_self _
  hιb c w s := Nat.le_refl _
  hD c g i h := absurd h (Nat.lt_irrefl _)

/-- Off its arrays a region keeps the contents. -/
theorem keep0 (c : Dev nD) : ∀ b ∈ Pipeline.ucRefs τ sig \ Pipeline.arrRefs (τ := τ) spec0, V1 m c b = U2 m c b := by
  intro b hb
  have hn := (Finset.mem_sdiff.1 hb).2
  have mem : ∀ w, Proc.devRef .tc (Pipeline.arrRef spec0 w) ∈ Pipeline.arrRefs (τ := τ) spec0 := fun w =>
    Finset.mem_map_of_mem _ (Finset.mem_image_of_mem _ (Finset.mem_univ w))
  refine (U2_of m c b ?_ ?_ ?_ ?_).symm
  · rintro rfl; exact hn (mem 2)
  · rintro rfl; exact hn (mem 3)
  · rintro rfl; exact hn (mem 4)
  · rintro rfl; exact hn (mem 5)
/-- The main region leaves the buffers that are not its arrays as they were. -/
theorem keep1 (c : Dev nD) : ∀ b ∈ Pipeline.ucRefs τ sig \ Pipeline.arrRefs (τ := τ) spec1, U3 m c b = U4 m c b := by
  intro b hb
  have hn := (Finset.mem_sdiff.1 hb).2
  refine (U4_of m c b ?_).symm
  rintro rfl
  exact hn (Finset.mem_map_of_mem _ (Finset.mem_image_of_mem _ (Finset.mem_univ (4 : Fin 5))))
/-- The combining region leaves the buffers that are not its arrays as they were. -/
theorem keep2 (c : Dev nD) : ∀ b ∈ Pipeline.ucRefs τ sig \ Pipeline.arrRefs (τ := τ) spec2, U4 m c b = U5 m c b := by
  intro b hb
  have hn := (Finset.mem_sdiff.1 hb).2
  refine (U5_of m c b ?_).symm
  rintro rfl
  exact hn (Finset.mem_map_of_mem _ (Finset.mem_image_of_mem _ (Finset.mem_univ (2 : Fin 3))))

/-- The arrays of a region before and after it are those of the contents before and after it. -/
theorem ends0 (c : Dev nD) : ∀ w : Fin 6, (dat0 (asRefs (V1 m)) c).arrAt w cfg0.N = U2 m c (Proc.devRef .tc (Pipeline.arrRef spec0 w)) := by
  have keep : ∀ w : Fin 6, (cfg0.win w).isOut = false → (∀ v : Fin 6, (cfg0.win v).isOut = true → Pipeline.arrRef spec0 w ≠ Pipeline.arrRef spec0 v) →
      (dat0 (asRefs (V1 m)) c).arrAt w cfg0.N = U2 m c (Proc.devRef .tc (Pipeline.arrRef spec0 w)) := fun w h hv =>
    ((dat0 (asRefs (V1 m)) c).arrAt_in w h _).trans (U2_of m c _ (StableHlo.devRef_ne_of_ne (hv 2 rfl)) (StableHlo.devRef_ne_of_ne (hv 3 rfl))
      (StableHlo.devRef_ne_of_ne (hv 4 rfl)) (StableHlo.devRef_ne_of_ne (hv 5 rfl))).symm
  intro w
  match w with
  | ⟨0, _⟩ => exact keep 0 rfl (by decide)
  | ⟨1, _⟩ => exact keep 1 rfl (by decide)
  | ⟨2, _⟩ => exact (U2_0 m c).symm
  | ⟨3, _⟩ => exact (U2_1 m c).symm
  | ⟨4, _⟩ => exact (U2_2 m c).symm
  | ⟨5, _⟩ => exact (U2_3 m c).symm
/-- The main region's arrays end at the contents named after it. -/
theorem ends1 (c : Dev nD) : ∀ w : Fin 5, (dat1 (asRefs (U3 m)) (adm1 m) c).arrAt w (cfg1 (adm1 m)).N = U4 m c (Proc.devRef .tc (Pipeline.arrRef spec1 w)) := by
  have keep : ∀ w : Fin 5, ((cfg1 (adm1 m)).win w).isOut = false → Pipeline.arrRef spec1 w ≠ main_call0_v6 →
      (dat1 (asRefs (U3 m)) (adm1 m) c).arrAt w (cfg1 (adm1 m)).N = U4 m c (Proc.devRef .tc (Pipeline.arrRef spec1 w)) := fun w h hv =>
    ((dat1 (asRefs (U3 m)) (adm1 m) c).arrAt_in w h _).trans (U4_of m c _ (StableHlo.devRef_ne_of_ne hv)).symm
  intro w
  match w with
  | ⟨0, _⟩ => exact keep 0 rfl (by decide)
  | ⟨1, _⟩ => exact keep 1 rfl (by decide)
  | ⟨2, _⟩ => exact keep 2 rfl (by decide)
  | ⟨3, _⟩ => exact keep 3 rfl (by decide)
  | ⟨4, _⟩ => exact (U4_6 m c).symm
/-- The combining region's arrays end at the contents named after it. -/
theorem ends2 (c : Dev nD) : ∀ w : Fin 3, (dat2 (asRefs (U4 m)) c).arrAt w cfg2.N = U5 m c (Proc.devRef .tc (Pipeline.arrRef spec2 w)) := by
  have keep : ∀ w : Fin 3, (cfg2.win w).isOut = false → Pipeline.arrRef spec2 w ≠ main_call0_v7 →
      (dat2 (asRefs (U4 m)) c).arrAt w cfg2.N = U5 m c (Proc.devRef .tc (Pipeline.arrRef spec2 w)) := fun w h hv =>
    ((dat2 (asRefs (U4 m)) c).arrAt_in w h _).trans (U5_of m c _ (StableHlo.devRef_ne_of_ne hv)).symm
  intro w
  match w with
  | ⟨0, _⟩ => exact keep 0 rfl (by decide)
  | ⟨1, _⟩ => exact keep 1 rfl (by decide)
  | ⟨2, _⟩ => exact (U5_7 m c).symm

/-- The routing region's record. -/
def reg0 : RegionSeg (pcfgs (F := F)) (adm m) (pdats m) () defs₀ Variants.none L lv 0 :=
  RegionSeg.ofHeld (pcfgs (F := F)) (adm m) (pdats m) () defs₀ Variants.none L lv 0 (fun _ => 0) (fun _ => BI.emp) (fun _ => BI.emp)
    launch0 rfl (fun c => (body0 (asRefs (V1 m)) c).loose) (fun _ _ => rfl) (fun _ => rfl) (fun c => (dat0 (asRefs (V1 m)) c).share_full fun _ => rfl)
    (fun c => by
      show iprop(Pipeline.scopedRest spec0 c ∗ BI.emp) ⊢ Φ0 c
      iintro ⟨H, -⟩; iexact H)
    (fun c => by
      show Φ0 c ⊢ iprop(Pipeline.scopedRest spec0 c ∗ BI.emp)
      iintro H; isplitl [H]; · iexact H
      iempintro)
    (fun _ => 0) (cut m 0)
    (fun c => StableHlo.held (c : Thread nD τ) (Pipeline.ucRefs τ sig \ Pipeline.arrRefs (τ := τ) spec0) (V1 m c)) (V1 m) (U2 m)
    (fun c w => rfl) (fun c w => ends0 m c w)

/-- The main region's record. -/
def reg1 : RegionSeg (pcfgs (F := F)) (adm m) (pdats m) () defs₀ Variants.none L lv 1 :=
  RegionSeg.ofHeldT (pcfgs (F := F)) (adm m) (pdats m) () defs₀ Variants.none L lv 1 (fun _ => 0) (fun _ => BI.emp) (fun _ => BI.emp)
    launch1 (fun c => (body1 (asRefs (U3 m)) (adm1 m) c).loose) (fun _ _ => rfl) (fun _ => rfl) (fun c => (dat1 (asRefs (U3 m)) (adm1 m) c).share_full fun _ => rfl)
    (fun c => by
      show iprop(iprop(Pipeline.scopedRest spec1 c ∗ BI.emp) ∗ Pipeline.prefHeld pre1 c (fun _ => fullShare) (adm1 m).1) ⊢ inv (asRefs (U3 m)) (adm1 m) c 0
      unfold inv Pipeline.prefHeld
      rw [show (Finset.univ : Finset (Fin pre1.K)) = {0} from rfl, bigSep_singleton, owns_whole]
      iintro ⟨⟨H, -⟩, Ht⟩
      ihave H' := (rest_split c) $$ H
      icases H' with ⟨Ho, %f, Hs⟩
      isplitl [Ho]; · iexact Ho
      isplitl [Ht]; · iexact Ht
      iexists f
      isplitr; · ipureintro; exact fun h => absurd h (Nat.lt_irrefl _)
      rw [owns_whole]
      iexact Hs)
    (fun c => by
      show inv (asRefs (U3 m)) (adm1 m) c (cfg1 (adm1 m)).N ⊢ iprop(iprop(Pipeline.scopedRest spec1 c ∗ BI.emp) ∗ Pipeline.prefHeld pre1 c (fun _ => fullShare) (adm1 m).1)
      unfold inv Pipeline.prefHeld
      rw [show (Finset.univ : Finset (Fin pre1.K)) = {0} from rfl, bigSep_singleton]
      simp only [owns_whole]
      iintro ⟨Ho, Ht, %A, -, Hs⟩
      isplitr [Ht]
      · isplitl
        · iapply (rest_join c)
          isplitl [Ho]; · iexact Ho
          iexists A
          iexact Hs
        · iempintro
      · iexact Ht)
    (fun _ => 0) (cut m 1)
    (fun c => StableHlo.held (c : Thread nD τ) ((Pipeline.ucRefs τ sig \ Pipeline.arrRefs (τ := τ) spec1) \ Pipeline.tblRefs (τ := τ) pre1) (U3 m c)) (U3 m) (U4 m)
    (fun c w => rfl)
    (fun c k => by obtain rfl : c = 0 := Subsingleton.elim _ _; rfl)
    (fun c w => ends1 m c w)
    (fun c k => by
      obtain rfl : c = 0 := Subsingleton.elim _ _
      have h : ∀ k : Fin pre1.K, pre1.ref k ≠ main_call0_v6 := by decide
      exact (U4_of m 0 (Proc.devRef .tc (pre1.ref k)) (StableHlo.devRef_ne_of_ne (h k))).symm)

/-- The combining region's record. -/
def reg2 : RegionSeg (pcfgs (F := F)) (adm m) (pdats m) () defs₀ Variants.none L lv 2 :=
  RegionSeg.ofHeld (pcfgs (F := F)) (adm m) (pdats m) () defs₀ Variants.none L lv 2 (fun _ => 0) (fun _ => BI.emp) (fun _ => BI.emp)
    launch2 rfl (fun c => (body2 (asRefs (U4 m)) c).loose) (fun _ _ => rfl) (fun _ => rfl) (fun c => (dat2 (asRefs (U4 m)) c).share_full fun _ => rfl)
    (fun c => by
      show iprop(Pipeline.scopedRest spec2 c ∗ BI.emp) ⊢ Φ2 c
      iintro ⟨H, -⟩; iexact H)
    (fun c => by
      show Φ2 c ⊢ iprop(Pipeline.scopedRest spec2 c ∗ BI.emp)
      iintro H; isplitl [H]; · iexact H
      iempintro)
    (fun _ => 0) (cut m 2)
    (fun c => StableHlo.held (c : Thread nD τ) (Pipeline.ucRefs τ sig \ Pipeline.arrRefs (τ := τ) spec2) (U4 m c)) (U4 m) (U5 m)
    (fun c w => rfl) (fun c w => ends2 m c w)

/-- Each region is entered from the unscoped buffers at the contents before it. -/
theorem pre0 (c : Dev nD) : iprop(StableHlo.held (c : Thread nD τ) (Pipeline.ucRefs τ sig) (V1 m c) ∗ idle c) ⊢ (reg0 m).pre c := by
  rw [StableHlo.held_sub_split (c : Thread nD τ) (Pipeline.arrRefs_sub_ucRefs spec0 (launch0 (F := F)).win.arr_unscoped) (V1 m c)]
  show _ ⊢ iprop(StableHlo.held (c.tc : Thread nD τ) (Pipeline.arrRefs (τ := τ) spec0) (V1 m c) ∗ BI.emp
    ∗ StableHlo.held (c : Thread nD τ) (Pipeline.ucRefs τ sig \ Pipeline.arrRefs (τ := τ) spec0) (V1 m c) ∗ idle c)
  iintro ⟨⟨Ha, Hr⟩, Hi⟩
  isplitl [Ha]; · iexact Ha
  isplitr; · iempintro
  isplitl [Hr]; · iexact Hr
  iexact Hi
/-- What the routing region ends with gives the buffers at the contents after it. -/
theorem post0 (c : Dev nD) : (reg0 m).post c ⊢ iprop(StableHlo.held (c : Thread nD τ) (Pipeline.ucRefs τ sig) (U2 m c) ∗ idle c) := by
  rw [StableHlo.held_sub_split (c : Thread nD τ) (Pipeline.arrRefs_sub_ucRefs spec0 (launch0 (F := F)).win.arr_unscoped) (U2 m c),
    ← StableHlo.held_congr (c : Thread nD τ) (keep0 m c)]
  show iprop(StableHlo.held (c.tc : Thread nD τ) (Pipeline.arrRefs (τ := τ) spec0) (U2 m c) ∗ BI.emp
    ∗ StableHlo.held (c : Thread nD τ) (Pipeline.ucRefs τ sig \ Pipeline.arrRefs (τ := τ) spec0) (V1 m c) ∗ idle c) ⊢ _
  iintro ⟨Ha, -, Hr, Hi⟩
  isplitr [Hi]
  · isplitl [Ha]; · iexact Ha
    iexact Hr
  · iexact Hi
/-- The buffers at the contents after the main region give what the combining region starts from. -/
theorem pre2 (c : Dev nD) : iprop(StableHlo.held (c : Thread nD τ) (Pipeline.ucRefs τ sig) (U4 m c) ∗ idle c) ⊢ (reg2 m).pre c := by
  rw [StableHlo.held_sub_split (c : Thread nD τ) (Pipeline.arrRefs_sub_ucRefs spec2 (launch2 (F := F)).win.arr_unscoped) (U4 m c)]
  show _ ⊢ iprop(StableHlo.held (c.tc : Thread nD τ) (Pipeline.arrRefs (τ := τ) spec2) (U4 m c) ∗ BI.emp
    ∗ StableHlo.held (c : Thread nD τ) (Pipeline.ucRefs τ sig \ Pipeline.arrRefs (τ := τ) spec2) (U4 m c) ∗ idle c)
  iintro ⟨⟨Ha, Hr⟩, Hi⟩
  isplitl [Ha]; · iexact Ha
  isplitr; · iempintro
  isplitl [Hr]; · iexact Hr
  iexact Hi
/-- What the combining region ends with gives the buffers at the contents after it. -/
theorem post2 (c : Dev nD) : (reg2 m).post c ⊢ iprop(StableHlo.held (c : Thread nD τ) (Pipeline.ucRefs τ sig) (U5 m c) ∗ idle c) := by
  rw [StableHlo.held_sub_split (c : Thread nD τ) (Pipeline.arrRefs_sub_ucRefs spec2 (launch2 (F := F)).win.arr_unscoped) (U5 m c),
    ← StableHlo.held_congr (c : Thread nD τ) (keep2 m c)]
  show iprop(StableHlo.held (c.tc : Thread nD τ) (Pipeline.arrRefs (τ := τ) spec2) (U5 m c) ∗ BI.emp
    ∗ StableHlo.held (c : Thread nD τ) (Pipeline.ucRefs τ sig \ Pipeline.arrRefs (τ := τ) spec2) (U4 m c) ∗ idle c) ⊢ _
  iintro ⟨Ha, -, Hr, Hi⟩
  isplitr [Hi]
  · isplitl [Ha]; · iexact Ha
    iexact Hr
  · iexact Hi

/-- The table is among the buffers that are not arrays of the main region. -/
theorem tbl_sub : Pipeline.tblRefs (τ := τ) pre1 ⊆ Pipeline.ucRefs τ sig \ Pipeline.arrRefs (τ := τ) spec1 :=
  Pipeline.tblRefs_sub_ucRefs_sdiff spec1 pre1 (by decide) (by decide)

/-- The buffers at the contents before the main region give what it starts from. -/
theorem pre1' (c : Dev nD) : iprop(StableHlo.held (c : Thread nD τ) (Pipeline.ucRefs τ sig) (U3 m c) ∗ idle c) ⊢ (reg1 m).pre c := by
  rw [StableHlo.held_sub_split (c : Thread nD τ) (Pipeline.arrRefs_sub_ucRefs spec1 (launch1 (F := F)).win.arr_unscoped) (U3 m c),
    StableHlo.held_sub_split (c : Thread nD τ) tbl_sub (U3 m c)]
  show _ ⊢ iprop(StableHlo.held (c.tc : Thread nD τ) (Pipeline.arrRefs (τ := τ) spec1) (U3 m c)
    ∗ StableHlo.held (c.tc : Thread nD τ) (Pipeline.tblRefs (τ := τ) pre1) (U3 m c) ∗ BI.emp
    ∗ StableHlo.held (c : Thread nD τ) ((Pipeline.ucRefs τ sig \ Pipeline.arrRefs (τ := τ) spec1) \ Pipeline.tblRefs (τ := τ) pre1) (U3 m c) ∗ idle c)
  iintro ⟨⟨Ha, Ht, Hr⟩, Hi⟩
  isplitl [Ha]; · iexact Ha
  isplitl [Ht]; · iexact Ht
  isplitr; · iempintro
  isplitl [Hr]; · iexact Hr
  iexact Hi
/-- What the main region ends with gives the buffers at the contents after it. -/
theorem post1 (c : Dev nD) : (reg1 m).post c ⊢ iprop(StableHlo.held (c : Thread nD τ) (Pipeline.ucRefs τ sig) (U4 m c) ∗ idle c) := by
  rw [StableHlo.held_sub_split (c : Thread nD τ) (Pipeline.arrRefs_sub_ucRefs spec1 (launch1 (F := F)).win.arr_unscoped) (U4 m c),
    StableHlo.held_sub_split (c : Thread nD τ) tbl_sub (U4 m c),
    ← StableHlo.held_congr (c : Thread nD τ) (S := (Pipeline.ucRefs τ sig \ Pipeline.arrRefs (τ := τ) spec1) \ Pipeline.tblRefs (τ := τ) pre1)
      (fun b hb => keep1 m c b (Finset.mem_sdiff.1 hb).1)]
  show iprop(StableHlo.held (c.tc : Thread nD τ) (Pipeline.arrRefs (τ := τ) spec1) (U4 m c)
    ∗ StableHlo.held (c.tc : Thread nD τ) (Pipeline.tblRefs (τ := τ) pre1) (U4 m c) ∗ BI.emp
    ∗ StableHlo.held (c : Thread nD τ) ((Pipeline.ucRefs τ sig \ Pipeline.arrRefs (τ := τ) spec1) \ Pipeline.tblRefs (τ := τ) pre1) (U3 m c) ∗ idle c) ⊢ _
  iintro ⟨Ha, Ht, -, Hr, Hi⟩
  isplitr [Hi]
  · isplitl [Ha]; · iexact Ha
    isplitl [Ht]; · iexact Ht
    iexact Hr
  · iexact Hi

end Cert.KernelIdeal.Moe

end
-- ==== Proof.Ideal.Whole.lean ====
/-
  The whole program: from any memory whose counters are zero it terminates, its result the last contents of `main_v0`,
  its arguments as launched, every counter at zero.
-/
module

public import proofs.«01_k».proof.Proof.Ideal.Records

@[expose] public section

noncomputable section

namespace Cert.KernelIdeal.Moe

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

open Idealize.ShloMosaic.Pipeline (RegionSeg Seg)

variable (m : (ℓ : Loc nD τ sig) → Buf (Elt F) ℓ) (ρ : Dev nD → PrngReg)

/-- The launch's one piece of ghost state is the pipeline library's. -/
theorem launch_ghost : (ownU (initOf (Pipeline.cells (Pipeline.pin (pcfgs (F := F)) (adm m)) (cellOf_inj (adm m)))
      (Pipeline.launchToks (Pipeline.pin (pcfgs (F := F)) (adm m)) (cellOf_inj (adm m))) : UU) : sProp 𝕄)
    ⊢ |={Set.univ}=> iprop(BI.own (emb₁ (initOf (Pipeline.cells (Pipeline.pin (pcfgs (F := F)) (adm m)) (cellOf_inj (adm m)))
      (Pipeline.launchToks (Pipeline.pin (pcfgs (F := F)) (adm m)) (cellOf_inj (adm m))))) ∗ bigSep Finset.univ (fun _ : Dev nD => (BI.emp : sProp 𝕄))) := by
  iintro Hu
  imodintro
  isplitl [Hu]
  · iapply (show (ownU _ : sProp 𝕄) ⊢ BI.own (emb₁ (initOf (Pipeline.cells (Pipeline.pin (pcfgs (F := F)) (adm m)) (cellOf_inj (adm m)))
      (Pipeline.launchToks (Pipeline.pin (pcfgs (F := F)) (adm m)) (cellOf_inj (adm m))))) from .rfl)
    iexact Hu
  · iapply (show (BI.emp : sProp 𝕄) ⊢ bigSep Finset.univ (fun _ : Dev nD => BI.emp) from by rw [BI.bigSep_emp_const])
    iempintro

/-- Each core starts with the buffers as launched, owing nothing. -/
theorem launch_rest : iprop((bigSep Finset.univ fun c : Dev nD =>
      iprop(unscopedBufs c (fun b => m ((c.tc : Thread nD τ).loc b)) ∗ unscopedSems0 c ∗ owes (c.tc : Thread nD τ) (0 : CellTallies nD τ sig Unit) ∅
        ∗ Pipeline.launchCred (fun _ : Dev nD => (0 : CellTallies nD τ sig Unit)) c ∗ prngReg c (ρ c) ∗ BI.emp)) ∗ levAts L lv)
    ⊢ (|={Set.univ}=> bigSep Finset.univ fun c : Dev nD =>
      iprop(StableHlo.held (c : Thread nD τ) (Pipeline.ucRefs τ sig) (V0 m c) ∗ idle c) : sProp 𝕄) :=
  Pipeline.initEach L lv fun c => by
    rw [← Pipeline.unscopedBufs_held (Ix := Unit) (Name := ℕ) (U := UU) (Lvl := ℕ) c (V0 m c)]
    iintro ⟨⟨Hh, -, HO, -, -, -⟩, -⟩
    imodintro
    isplitl [Hh]; · iexact Hh
    iexists ∅
    iexact HO

-- the launch theorem's implicit arguments are found by unifying its conclusion with the statement
set_option backward.isDefEq.respectTransparency.types false in
/-- The whole run. -/
theorem run_main : θ_run defs (onTc (τ := τ) (main (F := F))) ⟨m, fun _ => 0, ρ⟩ (fun r => (∀ c : Dev nD,
      r.2.mem ((c.tc : Thread nD τ).loc main_v0) = V6 m (outs m) c main_v0
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) := by
  refine Pipeline.θ_run_regions_kit_dev_sems (pcfgs (F := F)) (adm m) (pdats m) () (cellOf_inj (adm m)) emb₁ defs₀ Variants.none L lv m ρ main
    (segs m (outs m) Variants.none L lv (fun _ => idle) () (adm m) (pdats m) (reg0 m) (reg1 m) (reg2 m))
    (fun c Q => by
      rewrite [main_chain c, Seg.run_eq_chain,
        show (segs m (outs m) Variants.none L lv (fun _ => idle) () (adm m) (pdats m) (reg0 m) (reg1 m) (reg2 m) c).map Seg.prog = [
          StableHlo.seq hostOps0, Prog.lift (.customCall (Pipeline.entry 0) ()), StableHlo.seq hostOps1,
          Prog.lift (.customCall (Pipeline.entry 1) ()), Prog.lift (.customCall (Pipeline.entry 2) ()), StableHlo.seq hostOps3 ] from rfl]
      dsimp (config := { failIfUnchanged := false }) only
      exact .rfl)
    (fun c => by simp only [segs, Seg.pipes_host, Seg.pipes_region, Seg.pipes_nil]; decide) (fun _ => 0)
    (fun g hg => if_neg hg) (fun _ => BI.emp) _ (launch_ghost m)
    (T₀ := fun c => iprop(StableHlo.held (c : Thread nD τ) (Pipeline.ucRefs τ sig) (V0 m c) ∗ idle c))
    (Tₙ := fun c => StableHlo.held (c : Thread nD τ) (Pipeline.ucRefs τ sig) (V6 m (outs m) c))
    (hch := fun c => ⟨.rfl, pre0 m c, (post0 m c).trans (by rw [← V2_eq m c]; exact .rfl),
      (show _ ⊢ _ from by rw [← V3_eq m c]; exact .rfl).trans (pre1' m c),
      (post1 m c).trans (pre2 m c), (post2 m c).trans (by rw [← V5_eq m c]; exact .rfl), .rfl⟩)
    (hinit := launch_rest m ρ)
    (QY := fun c s => s.mem ((c.tc : Thread nD τ).loc main_v0) = V6 m (outs m) c main_v0
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3))
    (hfin := fun c s' => ?_) (hQ := fun _ h hz => ⟨h, funext fun g => hz g (.inr (regions_no_unscoped g.2))⟩)
  have uc : ∀ r : Ref sig .tc, (Proc.devRef (τ := τ) .tc r).isScoped = false → Proc.devRef .tc r ∈ Pipeline.ucRefs τ sig := fun r hr =>
    Finset.mem_filter.mpr ⟨StableHlo.devRef_mem_tcRefs r, by rw [hr]; decide⟩
  unfold StableHlo.held
  iintro ⟨Hh, HSI⟩
  ihave Hr := (pointsTo_read_all (Pipeline.ucRefs τ sig) (fun b => ((c : Thread nD τ).1, b)) (V6 m (outs m) c) s') $$ [Hh HSI]
  · isplitl [Hh] <;> iassumption
  icases Hr with ⟨%h, HSI⟩
  imodintro
  isplitr
  · ipureintro
    exact ⟨h (Proc.devRef .tc main_v0) (uc main_v0 rfl),
      (h (Proc.devRef .tc main_arg0) (uc main_arg0 rfl)).trans (V6_main_arg0 m (outs m) c),
      (h (Proc.devRef .tc main_arg1) (uc main_arg1 rfl)).trans (V6_main_arg1 m (outs m) c),
      (h (Proc.devRef .tc main_arg2) (uc main_arg2 rfl)).trans (V6_main_arg2 m (outs m) c),
      (h (Proc.devRef .tc main_arg3) (uc main_arg3 rfl)).trans (V6_main_arg3 m (outs m) c)⟩
  · iexact HSI

end Cert.KernelIdeal.Moe

end
-- ==== Proof.Value.Choice.lean ====
/-
  The two experts of a token: the first place of the greatest logit, and the first place of the greatest among the rest.
-/
module

public import Idealize.ShloMosaic.Lib.Pointwise

@[expose] public section

noncomputable section

namespace Cert.KernelIdeal.Moe

/-- `e` is the first place of `S` at which `L` is greatest. -/
def IsFirst {n : ℕ} (L : Fin n → EReal) (S : Finset (Fin n)) (e : Fin n) : Prop :=
  e ∈ S ∧ ∀ l ∈ S, L l < L e ∨ (L l = L e ∧ e ≤ l)

/-- A nonempty set has such a place, -/
theorem exists_first {n : ℕ} (L : Fin n → EReal) (S : Finset (Fin n)) (hS : S.Nonempty) : ∃ e, IsFirst L S e := by
  obtain ⟨M, hM, hmax⟩ := S.exists_max_image L hS
  have hT : (S.filter fun l => L l = L M).Nonempty := ⟨M, Finset.mem_filter.2 ⟨hM, rfl⟩⟩
  obtain ⟨e, he, hmin⟩ := (S.filter fun l => L l = L M).exists_min_image id hT
  rw [Finset.mem_filter] at he
  refine ⟨e, he.1, fun l hl => ?_⟩
  rcases lt_or_eq_of_le (hmax l hl) with h | h
  · exact .inl (by rw [he.2]; exact h)
  · exact .inr ⟨by rw [he.2]; exact h, hmin l (Finset.mem_filter.2 ⟨hl, h⟩)⟩

/-- and only one. -/
theorem IsFirst.unique {n : ℕ} {L : Fin n → EReal} {S : Finset (Fin n)} {e e' : Fin n} (h : IsFirst L S e) (h' : IsFirst L S e') : e = e' := by
  rcases h.2 e' h'.1 with a | a <;> rcases h'.2 e h.1 with b | b
  · exact absurd (a.trans b) (lt_irrefl _)
  · exact absurd b.1 a.ne'
  · exact absurd a.1 b.ne'
  · exact le_antisymm a.2 b.2

/-- The first place of the greatest logit. -/
def first (L : Fin 8 → EReal) : Fin 8 := (exists_first L Finset.univ ⟨0, Finset.mem_univ _⟩).choose

/-- The first choice is the first place of the greatest logit. -/
theorem first_spec (L : Fin 8 → EReal) : IsFirst L Finset.univ (first L) :=
  (exists_first L Finset.univ ⟨0, Finset.mem_univ _⟩).choose_spec

/-- There is a place other than any given one. -/
theorem rest_nonempty (e : Fin 8) : (Finset.univ.erase e).Nonempty :=
  ⟨if e = 0 then 1 else 0, Finset.mem_erase.2 ⟨by split <;> simp_all [eq_comm], Finset.mem_univ _⟩⟩

/-- The first place of the greatest logit among the others. -/
def second (L : Fin 8 → EReal) : Fin 8 := (exists_first L (Finset.univ.erase (first L)) (rest_nonempty _)).choose

/-- The second choice is the first place of the greatest logit among the others. -/
theorem second_spec (L : Fin 8 → EReal) : IsFirst L (Finset.univ.erase (first L)) (second L) :=
  (exists_first L (Finset.univ.erase (first L)) (rest_nonempty _)).choose_spec

/-- The two places differ. -/
theorem second_ne (L : Fin 8 → EReal) : second L ≠ first L := (Finset.mem_erase.1 (second_spec L).1).1

/-- The second logit is no greater than the first. -/
theorem second_le (L : Fin 8 → EReal) : L (second L) ≤ L (first L) := by
  rcases (first_spec L).2 (second L) (Finset.mem_univ _) with h | h
  · exact h.le
  · exact h.1.le

end Cert.KernelIdeal.Moe

end
-- ==== Proof.Value.TopK.lean ====
/-
  The reference's choice of the two greatest of eight logits: a stable sort, greatest first, of which the first two places are kept.
  Those two places are the first place of the greatest logit and the first place of the greatest among the rest.
-/
module

public import Idealize.ShloMosaic.Lib.SortFacts
public import proofs.«01_k».proof.Proof.Value.Choice

@[expose] public section

noncomputable section

namespace Cert.KernelIdeal.Moe

open Idealize.ShloMosaic

/-- "`a` is sorted ahead of `b`": its logit is greater, or the logits are equal and `a` is the earlier place. -/
def Ahead {n : ℕ} (L : Fin n → EReal) (a b : Fin n) : Prop := L b < L a ∨ (L a = L b ∧ a < b)

/-- The comparison the sort is made by: is the logit at `a` the greater one? -/
abbrev greater {n : ℕ} (L : Fin n → EReal) (a b : Fin n) : Bool := decide (L b < L a)

/-- A place earlier than every place of a sorted list, inserted in that list, leaves it sorted. -/
theorem insert_sorted {n : ℕ} (L : Fin n → EReal) (a : Fin n) : ∀ l : List (Fin n), (∀ b ∈ l, a < b) → l.Pairwise (Ahead L) →
    (insertBefore (greater L) a l).Pairwise (Ahead L)
  | [], _, _ => by simp [insertBefore]
  | b :: l, hlt, hl => by
    rw [List.pairwise_cons] at hl
    by_cases h : L a < L b
    · rw [insertBefore, if_pos (by simpa [greater] using h), List.pairwise_cons]
      refine ⟨fun c hc => ?_, insert_sorted L a l (fun c hc => hlt c (List.mem_cons_of_mem _ hc)) hl.2⟩
      rcases List.mem_cons.1 ((perm_insertBefore _ a l).mem_iff.1 hc) with rfl | hc'
      · exact .inl h
      · exact hl.1 c hc'
    · rw [insertBefore, if_neg (by simpa [greater] using h), List.pairwise_cons]
      refine ⟨fun c hc => ?_, List.pairwise_cons.2 hl⟩
      have hcb : L c ≤ L b := by
        rcases List.mem_cons.1 hc with rfl | hc'
        · exact le_rfl
        · rcases hl.1 c hc' with h' | h'
          · exact h'.le
          · exact h'.1.ge
      rcases (hcb.trans (not_lt.1 h)).lt_or_eq with h' | h'
      · exact .inl h'
      · exact .inr ⟨h'.symm, hlt c hc⟩

/-- The stable sort of an ascending list of places is sorted. -/
theorem stable_sorted {n : ℕ} (L : Fin n → EReal) : ∀ l : List (Fin n), l.Pairwise (· < ·) → (stableSort (greater L) l).Pairwise (Ahead L)
  | [], _ => by simp [stableSort]
  | a :: l, h => by
    rw [List.pairwise_cons] at h
    exact insert_sorted L a _ (fun b hb => h.1 b ((perm_stableSort _ l).mem_iff.1 hb)) (stable_sorted L l h.2)

/-- An earlier position of the sort holds a place ahead of that at a later position. -/
theorem sorted_ahead {n : ℕ} (L : Fin n → EReal) (i j : Fin n) (h : i < j) :
    Ahead L (sortedFrom (greater L) i) (sortedFrom (greater L) j) :=
  List.pairwise_iff_get.1 (stable_sorted L (List.finRange n) (List.pairwise_lt_finRange n)) _ _ h

/-- The sort's first position holds the first place of the greatest logit. -/
theorem sorted_zero (L : Fin 8 → EReal) : sortedFrom (greater L) 0 = first L := by
  refine IsFirst.unique ⟨Finset.mem_univ _, fun l _ => ?_⟩ (first_spec L)
  obtain ⟨k, rfl⟩ := sortedFrom_surjective (greater L) l
  by_cases hk : k = 0
  · subst hk
    exact .inr ⟨rfl, le_rfl⟩
  · rcases sorted_ahead L 0 k (Fin.pos_of_ne_zero hk) with h | h
    · exact .inl h
    · exact .inr ⟨h.1.symm, h.2.le⟩

/-- The sort's second position holds the first place of the greatest logit among the rest. -/
theorem sorted_one (L : Fin 8 → EReal) : sortedFrom (greater L) 1 = second L := by
  have h01 : sortedFrom (greater L) 1 ≠ sortedFrom (greater L) 0 := fun h => by
    rcases sorted_ahead L 0 1 (by decide) with h' | h'
    · rw [h] at h'; exact lt_irrefl _ h'
    · rw [h] at h'; exact lt_irrefl _ h'.2
  rw [sorted_zero] at h01
  refine IsFirst.unique ⟨Finset.mem_erase.2 ⟨h01, Finset.mem_univ _⟩, fun l hl => ?_⟩ (second_spec L)
  obtain ⟨k, rfl⟩ := sortedFrom_surjective (greater L) l
  have hk0 : k ≠ 0 := fun h => (Finset.mem_erase.1 hl).1 (by rw [h, sorted_zero])
  by_cases hk : k = 1
  · subst hk
    exact .inr ⟨rfl, le_rfl⟩
  · have : (1 : Fin 8) < k := by
      rw [Fin.lt_def]
      have h0 : k.val ≠ 0 := fun h => hk0 (Fin.ext h)
      have h1 : k.val ≠ 1 := fun h => hk (Fin.ext h)
      show 1 < k.val
      omega
    rcases sorted_ahead L 1 k this with h | h
    · exact .inl h
    · exact .inr ⟨h.1.symm, h.2.le⟩

end Cert.KernelIdeal.Moe

end
-- ==== Proof.Value.RefChoice.lean ====
/-
  The reference's logits, and the two experts of a token with their logits: what its top-k returns.
-/
module

public import Idealize.ShloMosaic.Lib.Pointwise
public import proofs.«01_k».proof.Proof.Gen.ReferenceIdeal.Read
public import proofs.«01_k».proof.Proof.Value.TopK

@[expose] public section

noncomputable section

namespace Cert.ReferenceIdeal.Moe

open Cert.ReferenceIdeal Cert.ReferenceIdeal.Gen Cert.ReferenceIdeal.Read
open Cert.KernelIdeal.Moe (first second greater sorted_zero sorted_one)
open Idealize.ShloMosaic

variable (x0 : (⟨S1x2048x768, .f32⟩ : BufTy).Contents (Elt Ideal)) (x1 : (⟨S8x768, .f32⟩ : BufTy).Contents (Elt Ideal))

/-- A token's logit for an expert: the token's row times the expert's row of the gate. -/
def gate (t : Fin 2048) (e : Fin 8) : EReal := ∑ k : Fin 768, x0 (ix3 0 t k) * x1 (ix2 e k)

/-- The token rows. -/
theorem v0_eq (t : Fin 2048) (k : Fin 768) : val_main_v0 (F := Ideal) x0 (ix2 t k) = x0 (ix3 0 t k) := by
  rw [val_main_v0_apply]
  congr 1
  funext a
  match a with
  | ⟨0, _⟩ => rfl
  | ⟨1, _⟩ => exact Fin.ext (by show (t.val * 768 + k.val) / 768 % 2048 = t.val; omega)
  | ⟨2, _⟩ => exact Fin.ext (by show (t.val * 768 + k.val) % 768 = k.val; omega)

/-- The reference's logits. -/
theorem v2_eq (t : Fin 2048) (e : Fin 8) : val_main_v2 (F := Ideal) x0 x1 (ix2 t e) = gate x0 x1 t e := by
  rw [val_main_v2_apply]
  refine Finset.sum_congr rfl fun k _ => congrArg₂ (· * ·) ?_ ?_
  · rw [show lidx_main_v2 (ix2 t e) k = ix2 t k from eq_ix2 _, v0_eq]
  · rw [val_main_v1_apply]
    exact congrArg x1 (eq_ix2 _)

/-- The sort's comparison is "the greater logit first". -/
theorem before_eq (L : Fin 8 → EReal) (a b : Fin 8) : (Ideal.cmpTotal .gt (L a) (L b) == 1#1) = greater L a b := by
  show (Ideal.cmp .ogt (L a) (L b) == 1#1) = _
  unfold Ideal.cmp
  by_cases h : L b < L a <;> simp [greater, h]

/-- The place along a row. -/
theorem along_row (t : Fin 2048) (k e : Fin 8) : (ix2 t k : S2048x8.Idx).along (1 : Fin 2) e = ix2 t e := by
  funext a
  match a with
  | ⟨0, _⟩ => rfl
  | ⟨1, _⟩ => rfl

/-- The words of the places of a row. -/
abbrev places : IVec S2048x8 32 := fun i => BitVec.ofNat 32 (i 1).val

/-- The sort of the rows with their places, greatest first. -/
abbrev sorted (x : S2048x8.Idx → EReal) : (S2048x8.Idx → EReal) × (IVec S2048x8 32) :=
  Host.sort2 S2048x8 1 (fun l r => Ideal.cmpTotal .gt l.1 r.1) x places

/-- The sort at a place of a row: the entry, and the word, of the place sorted there. -/
theorem sorted_eq (x : S2048x8.Idx → EReal) (t : Fin 2048) (k : Fin 8) :
    (sorted x).1 (ix2 t k) = x (ix2 t (sortedFrom (greater fun e => x (ix2 t e)) k))
      ∧ (sorted x).2 (ix2 t k) = BitVec.ofNat 32 (sortedFrom (greater fun e => x (ix2 t e)) k).val := by
  have hb : (fun a b : Fin 8 => Ideal.cmpTotal .gt (x ((ix2 t k : S2048x8.Idx).along (1 : Fin 2) a)) (x ((ix2 t k : S2048x8.Idx).along (1 : Fin 2) b)) == 1#1)
      = greater fun e => x (ix2 t e) := by
    funext a b
    rw [along_row, along_row]
    exact before_eq (fun e => x (ix2 t e)) a b
  have h1 : (sorted x).1 (ix2 t k) = x ((ix2 t k : S2048x8.Idx).along (1 : Fin 2) (sortedFrom (fun a b : Fin 8 =>
      Ideal.cmpTotal .gt (x ((ix2 t k : S2048x8.Idx).along (1 : Fin 2) a)) (x ((ix2 t k : S2048x8.Idx).along (1 : Fin 2) b)) == 1#1) k)) := rfl
  have h2 : (sorted x).2 (ix2 t k) = places ((ix2 t k : S2048x8.Idx).along (1 : Fin 2) (sortedFrom (fun a b : Fin 8 =>
      Ideal.cmpTotal .gt (x ((ix2 t k : S2048x8.Idx).along (1 : Fin 2) a)) (x ((ix2 t k : S2048x8.Idx).along (1 : Fin 2) b)) == 1#1) k)) := rfl
  refine ⟨?_, ?_⟩
  · exact h1.trans ((congrArg (fun b : Fin 8 → Fin 8 → Bool => x ((ix2 t k : S2048x8.Idx).along (1 : Fin 2) (sortedFrom b k))) hb).trans
      (congrArg x (along_row t k _)))
  · exact h2.trans ((congrArg (fun b : Fin 8 → Fin 8 → Bool => places ((ix2 t k : S2048x8.Idx).along (1 : Fin 2) (sortedFrom b k))) hb).trans
      (congrArg places (along_row t k _)))

/-- The kept place `k` of a row. -/
theorem kept (t : Fin 2048) (k : Fin 2) (h : S2048x8.Slices (fun _ => 0) S2048x2) :
    (fun a => ⟨0 + ((ix2 t k : S2048x2.Idx) (a.cast h.1.symm)).val,
      Nat.lt_of_lt_of_le (Nat.add_lt_add_left ((ix2 t k : S2048x2.Idx) _).isLt _) (h.2 a)⟩ : S2048x8.Idx) = ix2 t (k.castLE (by decide)) := by
  funext a
  match a with
  | ⟨0, _⟩ => exact Fin.ext (Nat.zero_add _)
  | ⟨1, _⟩ => exact Fin.ext (Nat.zero_add _)

/-- The top-k keeps the first two places of the sort. -/
theorem values_sorted (t : Fin 2048) (k : Fin 2) :
    val_main_values (F := Ideal) x0 x1 (ix2 t k) = (sorted (val_main_v2 (F := Ideal) x0 x1)).1 (ix2 t (k.castLE (by decide))) :=
  congrArg (sorted (val_main_v2 (F := Ideal) x0 x1)).1 (kept t k sliceFits_S2048x8_S2048x2)

/-- The reference's indices are the first two of its sorted ones. -/
theorem indices_sorted (t : Fin 2048) (k : Fin 2) :
    val_main_indices (F := Ideal) x0 x1 (ix2 t k) = (sorted (val_main_v2 (F := Ideal) x0 x1)).2 (ix2 t (k.castLE (by decide))) :=
  congrArg (sorted (val_main_v2 (F := Ideal) x0 x1)).2 (kept t k sliceFits_S2048x8_S2048x2)

/-- The reference's two experts of a token. -/
def pick (t : Fin 2048) : Fin 2 → Fin 8 := ![first (gate x0 x1 t), second (gate x0 x1 t)]

/-- The first two places of the sorted order are the first and second choice. -/
theorem pick_sorted (t : Fin 2048) (k : Fin 2) :
    sortedFrom (greater fun e => val_main_v2 (F := Ideal) x0 x1 (ix2 t e)) (k.castLE (by decide)) = pick x0 x1 t k := by
  rw [show (fun e => val_main_v2 (F := Ideal) x0 x1 (ix2 t e)) = gate x0 x1 t from funext fun e => v2_eq x0 x1 t e]
  match k with
  | ⟨0, _⟩ => exact sorted_zero _
  | ⟨1, _⟩ => exact sorted_one _

/-- The top-k's values are the logits of the two experts, -/
theorem values_eq (t : Fin 2048) (k : Fin 2) : val_main_values (F := Ideal) x0 x1 (ix2 t k) = gate x0 x1 t (pick x0 x1 t k) := by
  rw [values_sorted, (sorted_eq _ t _).1, pick_sorted, v2_eq]

/-- and its indices are the words of the experts. -/
theorem indices_eq (t : Fin 2048) (k : Fin 2) : val_main_indices (F := Ideal) x0 x1 (ix2 t k) = BitVec.ofNat 32 (pick x0 x1 t k).val := by
  rw [indices_sorted, (sorted_eq _ t _).2, pick_sorted]

end Cert.ReferenceIdeal.Moe

end
-- ==== Proof.Value.Finite.lean ====
/-
  The precondition read at an element: the tokens, the gate and the second weights are neither infinity; so the logits are real.
-/
module

public import proofs.«01_k».proof.Pre_finite_routing_and_output
public import proofs.«01_k».proof.Proof.Value.RefChoice

@[expose] public section

noncomputable section

namespace Cert.Pre_finite_routing_and_output

open Idealize.ShloMosaic

/-- The side conditions the precondition states. -/
theorem facts : Facts where
  bcast_S_S1x2048x768 := by decide
  bcast_S_S8x768 := by decide
  bcast_S_S8x768x3072 := by decide

/-- The float of plus infinity. -/
theorem pinf_top : Ideal.ofBits .f32 0x7F800000#32 = ⊤ := by
  rw [Ideal.ofBits]
  simp [Ideal.ieee]

/-- The two comparisons of an element, both true. -/
theorem finite_of_bits (x : EReal) (h : IntOp.andi (Ideal.cmp .olt (-Ideal.ofBits .f32 0x7F800000#32) x) (Ideal.cmp .olt x (Ideal.ofBits .f32 0x7F800000#32)) = 1#1) :
    x ≠ ⊥ ∧ x ≠ ⊤ := by
  rw [pinf_top, EReal.neg_top] at h
  unfold Ideal.cmp at h
  dsimp only at h
  by_cases hb : ⊥ < x
  · by_cases ht : x < ⊤
    · exact ⟨hb.ne', ht.ne⟩
    · rw [decide_eq_true hb, decide_eq_false ht] at h; exact absurd h (by decide)
  · rw [decide_eq_false hb] at h
    by_cases ht : x < ⊤
    · rw [decide_eq_true ht] at h; exact absurd h (by decide)
    · rw [decide_eq_false ht] at h; exact absurd h (by decide)

variable [Facts] (x0 : FVec Ideal S1x2048x768 .f32) (x1 : FVec Ideal S8x768 .f32) (x2 : FVec Ideal S8x3072x768 .f32) (x3 : FVec Ideal S8x768x3072 .f32)

/-- Under the precondition no token, gate or second weight is an infinity. -/
theorem finite_args (h : (fn (F := Ideal) x0 x1 x2 x3).1 = (fun _ => 1#1) ∧ (fn (F := Ideal) x0 x1 x2 x3).2.1 = (fun _ => 1#1)
      ∧ (fn (F := Ideal) x0 x1 x2 x3).2.2 = (fun _ => 1#1)) :
    (∀ i, x0 i ≠ ⊥ ∧ x0 i ≠ ⊤) ∧ (∀ i, x1 i ≠ ⊥ ∧ x1 i ≠ ⊤) ∧ (∀ i, x3 i ≠ ⊥ ∧ x3 i ≠ ⊤) :=
  ⟨fun i => finite_of_bits (x0 i) (congrFun h.1 i), fun i => finite_of_bits (x1 i) (congrFun h.2.1 i), fun i => finite_of_bits (x3 i) (congrFun h.2.2 i)⟩

end Cert.Pre_finite_routing_and_output

namespace Cert.ReferenceIdeal.Moe

open Cert.ReferenceIdeal Cert.ReferenceIdeal.Gen
open Idealize.ShloMosaic

variable (x0 : (⟨S1x2048x768, .f32⟩ : BufTy).Contents (Elt Ideal)) (x1 : (⟨S8x768, .f32⟩ : BufTy).Contents (Elt Ideal))

/-- An extended real that is neither infinity is a real. -/
theorem real_of_ne {x : EReal} (h : x ≠ ⊥ ∧ x ≠ ⊤) : ∃ r : ℝ, x = r := ⟨x.toReal, (EReal.coe_toReal h.2 h.1).symm⟩

/-- The logits of finite tokens and gate are real. -/
theorem gate_real (h0 : ∀ i, x0 i ≠ ⊥ ∧ x0 i ≠ ⊤) (h1 : ∀ i, x1 i ≠ ⊥ ∧ x1 i ≠ ⊤) (t : Fin 2048) (e : Fin 8) : ∃ r : ℝ, gate x0 x1 t e = r := by
  unfold gate
  refine Finset.sum_induction _ (fun x : EReal => ∃ r : ℝ, x = r) ?_ ⟨0, rfl⟩ fun k _ => ?_
  · rintro _ _ ⟨a, rfl⟩ ⟨b, rfl⟩
    exact ⟨a + b, (EReal.coe_add a b).symm⟩
  · obtain ⟨a, ha⟩ := real_of_ne (h0 (ix3 0 t k))
    obtain ⟨b, hb⟩ := real_of_ne (h1 (ix2 e k))
    exact ⟨a * b, by rw [ha, hb, EReal.coe_mul]⟩

end Cert.ReferenceIdeal.Moe

end
-- ==== Proof.Value.Lanes.lean ====
/-
  Scalar facts of the routing kernel at the extended reals: masks as zero and one, a row's greatest entry and its first
  lane, small natural numbers through the float and word conversions, and the division rounded down.
-/
module

public import Idealize.ShloMosaic.Lib.Pointwise
public import Idealize.ShloMosaic.Lib.Routing.Words

@[expose] public section

noncomputable section

namespace Cert.KernelIdeal.Moe

open Idealize.ShloMosaic Idealize.ShloMosaic.Routing

/-- A bit is one exactly when its condition holds. -/
theorem ofBool_one {P : Prop} [Decidable P] : BitVec.ofBool (decide P) = 1#1 ↔ P := by
  by_cases h : P <;> simp [h]

/-- Words of two numbers below 2^31 are equal exactly when the numbers are. -/
theorem word_inj {a b : ℕ} (ha : a < 2 ^ 31) (hb : b < 2 ^ 31) : BitVec.ofNat 32 a = BitVec.ofNat 32 b ↔ a = b := by
  refine ⟨fun h => ?_, fun h => by rw [h]⟩
  have := congrArg BitVec.toNat h
  rwa [BitVec.toNat_ofNat, BitVec.toNat_ofNat, Nat.mod_eq_of_lt (by omega), Nat.mod_eq_of_lt (by omega)] at this

/-- The compare of two such words for equality. -/
theorem cmpi_eq_word {a b : ℕ} (ha : a < 2 ^ 31) (hb : b < 2 ^ 31) :
    IntOp.cmpi .eq (BitVec.ofNat 32 a) (BitVec.ofNat 32 b) = BitVec.ofBool (decide (a = b)) := by
  unfold IntOp.cmpi
  congr 1
  rw [Bool.eq_iff_iff]
  simp only [beq_iff_eq, decide_eq_true_eq]
  exact word_inj ha hb

/-- The compare of two such words for order. -/
theorem cmpi_slt_word {a b : ℕ} (ha : a < 2 ^ 31) (hb : b < 2 ^ 31) :
    IntOp.cmpi .slt (BitVec.ofNat 32 a) (BitVec.ofNat 32 b) = BitVec.ofBool (decide (a < b)) := by
  unfold IntOp.cmpi
  rw [slt_ofNat32 ha hb]

/-- A widened bit read as a float is one or zero. -/
theorem sitofp_bit {P : Prop} [Decidable P] :
    (FloatOps.sitofp .f32 (BitVec.setWidth 32 (BitVec.ofBool (decide P))) : Ideal .f32) = if P then 1 else 0 := by
  show (((BitVec.setWidth 32 (BitVec.ofBool (decide P))).toInt : ℝ) : EReal) = _
  by_cases h : P
  · rw [if_pos h, decide_eq_true h, show (BitVec.setWidth 32 (BitVec.ofBool true)).toInt = 1 by decide]; norm_num
  · rw [if_neg h, decide_eq_false h, show (BitVec.setWidth 32 (BitVec.ofBool false)).toInt = 0 by decide]; norm_num

/-- A small natural number's word read as a float is that number. -/
theorem sitofp_word {n : ℕ} (h : n < 2 ^ 31) : (FloatOps.sitofp .f32 (BitVec.ofNat 32 n) : Ideal .f32) = (n : EReal) := by
  show (((BitVec.ofNat 32 n).toInt : ℝ) : EReal) = _
  have e : (BitVec.ofNat 32 n).toInt = n := by
    rw [BitVec.toInt_eq_toNat_of_lt (by rw [BitVec.toNat_ofNat]; omega), BitVec.toNat_ofNat, Nat.mod_eq_of_lt (by omega)]
  rw [e]
  rfl

/-- A small natural number truncated to a word is its word. -/
theorem fptosi_nat {n : ℕ} (h : n < 2 ^ 31) : FloatOps.fptosi (F := Ideal) (φ := .f32) 32 ((n : EReal) : Ideal .f32) = BitVec.ofNat 32 n := by
  show Ideal.fptosi 32 (((n : ℝ) : EReal)) = _
  unfold Ideal.fptosi
  rw [Ideal.toIntClamped_coe, if_pos (by positivity), Int.floor_natCast, min_eq_right (by norm_num; omega), max_eq_right (by norm_num)]
  exact BitVec.ofInt_natCast 32 n

/-- The printed division of a small natural number by 256, rounded down. -/
theorem floor256 {a : ℕ} (ha : a < 2 ^ 31) :
    Scalar.select (IntOp.andi
        (IntOp.cmpi .ne
          (IntOp.subi (BitVec.setWidth 32 (IntOp.cmpi .sgt (BitVec.ofNat 32 a) 0#32))
            (BitVec.setWidth 32 (IntOp.cmpi .slt (BitVec.ofNat 32 a) 0#32)))
          (Scalar.subi (Scalar.extui (Scalar.cmpi .sgt 256#32 0#32)) (Scalar.extui (Scalar.cmpi .slt 256#32 0#32))))
        (IntOp.cmpi .ne (IntOp.remsi ArithUnit.vector (BitVec.ofNat 32 a) 256#32) 0#32))
      (IntOp.subi (IntOp.divsi ArithUnit.vector (BitVec.ofNat 32 a) 256#32) 1#32)
      (IntOp.divsi ArithUnit.vector (BitVec.ofNat 32 a) 256#32) = BitVec.ofNat 32 (a / 256) := by
  have h1 : IntOp.cmpi .slt (BitVec.ofNat 32 a) 0#32 = 0#1 := by
    rw [show (0#32) = BitVec.ofNat 32 0 from rfl, cmpi_slt_word ha (by norm_num)]; simp
  have h2 : IntOp.cmpi .sgt (BitVec.ofNat 32 a) 0#32 = BitVec.ofBool (decide (0 < a)) := by
    rw [show (0#32) = BitVec.ofNat 32 0 from rfl]
    unfold IntOp.cmpi
    rw [slt_ofNat32 (by norm_num) ha]
  rw [h1, h2, show (256#32) = BitVec.ofNat 32 256 from rfl, remsi_word .vector ha (by norm_num) (by norm_num),
    divsi_word .vector ha (by norm_num) (by norm_num)]
  rcases Nat.eq_zero_or_pos a with h | h
  · subst h; decide
  · rw [decide_eq_true h]
    rw [show IntOp.cmpi .ne (IntOp.subi (BitVec.setWidth 32 (BitVec.ofBool true)) (BitVec.setWidth 32 0#1))
      (Scalar.subi (Scalar.extui (Scalar.cmpi .sgt (BitVec.ofNat 32 256) 0#32)) (Scalar.extui (Scalar.cmpi .slt (BitVec.ofNat 32 256) 0#32))) = 0#1 by decide]
    have e (x : BitVec 1) : IntOp.andi 0#1 x = 0#1 := by revert x; decide
    rw [e]
    rfl

/-- The greatest entry of a row, from an entry no smaller than any. -/
theorem fold_max_row {n : ℕ} (g : Fin n → EReal) (e : Fin n) (h : ∀ l, g l ≤ g e) : Finset.univ.fold max ⊥ g = g e := by
  apply le_antisymm
  · rw [Finset.fold_max_le]; exact ⟨bot_le, fun l _ => h l⟩
  · rw [Finset.le_fold_max]; exact .inr ⟨e, Finset.mem_univ _, le_rfl⟩

/-- The signed lesser of two words of small numbers. -/
theorem minsi_word {a b : ℕ} (ha : a < 2 ^ 31) (hb : b < 2 ^ 31) :
    IntOp.minsi (BitVec.ofNat 32 a) (BitVec.ofNat 32 b) = BitVec.ofNat 32 (min a b) := by
  unfold IntOp.minsi
  rw [slt_ofNat32 ha hb]
  by_cases h : a < b
  · rw [decide_eq_true h, if_pos rfl, min_eq_left h.le]
  · rw [decide_eq_false h, if_neg (by decide), min_eq_right (by omega)]

/-- The signed greater of two words of small numbers. -/
theorem maxsi_word {a b : ℕ} (ha : a < 2 ^ 31) (hb : b < 2 ^ 31) :
    IntOp.maxsi (BitVec.ofNat 32 a) (BitVec.ofNat 32 b) = BitVec.ofNat 32 (max a b) := by
  unfold IntOp.maxsi
  rw [slt_ofNat32 hb ha]
  by_cases h : b < a
  · rw [decide_eq_true h, if_pos rfl, max_eq_left h.le]
  · rw [decide_eq_false h, if_neg (by decide), max_eq_right (by omega)]

/-- The least word of a row of small numbers. -/
theorem fold_minsi_word {ι : Type} (s : Finset ι) (g : ι → ℕ) (c : ℕ) (hc : c < 2 ^ 31) (hg : ∀ l, g l < 2 ^ 31) :
    s.fold IntOp.minsi (BitVec.ofNat 32 c) (fun l => BitVec.ofNat 32 (g l)) = BitVec.ofNat 32 (s.fold min c g) ∧ s.fold min c g < 2 ^ 31 := by
  classical
  induction s using Finset.induction_on with
  | empty => exact ⟨rfl, hc⟩
  | insert a s h ih =>
    rw [Finset.fold_insert h, Finset.fold_insert h, ih.1, minsi_word (hg a) ih.2]
    exact ⟨rfl, lt_of_le_of_lt (min_le_left _ _) (hg a)⟩

/-- The first lane holding a row's greatest entry, as the kernel finds it. -/
theorem fold_first_lane (g : Fin 128 → EReal) (e : Fin 128) (h : ∀ l, g l < g e ∨ (g l = g e ∧ e ≤ l)) :
    Finset.univ.fold IntOp.minsi 2147483647#32 (fun l => if g l = g e then BitVec.ofNat 32 l.val else 128#32) = BitVec.ofNat 32 e.val := by
  have hr : (fun l : Fin 128 => if g l = g e then BitVec.ofNat 32 l.val else 128#32)
      = fun l => BitVec.ofNat 32 (if g l = g e then l.val else 128) := by
    funext l; split <;> rfl
  rw [hr, show (2147483647#32) = BitVec.ofNat 32 2147483647 from rfl,
    (fold_minsi_word Finset.univ _ 2147483647 (by norm_num) (fun l => by split <;> omega)).1]
  congr 1
  apply le_antisymm
  · rw [Finset.fold_min_le]; exact .inr ⟨e, Finset.mem_univ _, by rw [if_pos rfl]⟩
  · rw [Finset.le_fold_min]
    refine ⟨by omega, fun l _ => ?_⟩
    split
    · rename_i he
      rcases h l with h | h
      · exact absurd he h.ne
      · exact h.2
    · omega

end Cert.KernelIdeal.Moe

end
-- ==== Proof.Value.Hot.lean ====
/-
  The routing kernel's choices at the extended reals: each token's two experts, their logits, their one-hot rows and the
  combining weights.
-/
module

public import proofs.«01_k».proof.Proof.Ideal.Routing
public import proofs.«01_k».proof.Proof.Value.Lanes
public import proofs.«01_k».proof.Proof.Value.Choice

@[expose] public section

noncomputable section

namespace Cert.KernelIdeal.Moe

open Cert.KernelIdeal Cert.KernelIdeal.Gen
open Idealize.ShloMosaic

variable (X : Vec Ideal S2048x768 .f32) (G : Vec Ideal S128x768 .f32)

/-- The lane of an expert. -/
def lane (e : Fin 8) : Fin 128 := ⟨e.val, by omega⟩

/-- A token's logit for an expert. -/
def logit (t : Fin 2048) (e : Fin 8) : EReal := ∑ d : Fin 768, X (ix2 t d) * G (ix2 (lane e) d)

/-- A token's two experts. -/
def eA (t : Fin 2048) : Fin 8 := first (logit X G t)
/-- A token's second expert. -/
def eB (t : Fin 2048) : Fin 8 := second (logit X G t)

/-- The named mask is minus infinity. -/
theorem mask_bot : (Named.named κ "mask" 0xF149F2CA#32 : Ideal .f32) = (⊥ : EReal) :=
  (IdealRules.named_const.statement κ "mask" .f32 0xF149F2CA#32 ⊥ rfl).2.2

/-- The float of minus infinity. -/
theorem ninf_bot : Ideal.ofBits .f32 0xFF800000#32 = ⊥ := by
  rw [Ideal.ofBits]
  simp [Ideal.ieee]

/-- The masked logits: those of the experts, minus infinity on the other lanes. -/
theorem pay4_eq (t : Fin 2048) (l : Fin 128) :
    k0_pay4 (F := Ideal) X G (ix2 t l) = if h : l.val < 8 then logit X G t ⟨l.val, h⟩ else ⊥ := by
  pointwise [k0_pay4, k0_pay2]
  rw [mask_bot, show (8#32) = BitVec.ofNat 32 8 from rfl, cmpi_slt_word (by omega) (by omega)]
  by_cases h : l.val < 8
  · rw [dif_pos h, decide_eq_true h]; rfl
  · rw [dif_neg h, decide_eq_false h]; rfl

variable (hL : ∀ t e, ⊥ < logit X G t e)
include hL

/-- The first expert's lane is the first holding the greatest masked logit. -/
theorem eA_lane (t : Fin 2048) (l : Fin 128) :
    k0_pay4 (F := Ideal) X G (ix2 t l) < k0_pay4 (F := Ideal) X G (ix2 t (lane (eA X G t)))
      ∨ (k0_pay4 (F := Ideal) X G (ix2 t l) = k0_pay4 (F := Ideal) X G (ix2 t (lane (eA X G t))) ∧ lane (eA X G t) ≤ l) := by
  have he : k0_pay4 (F := Ideal) X G (ix2 t (lane (eA X G t))) = logit X G t (eA X G t) := by
    rw [pay4_eq, dif_pos (show (lane (eA X G t)).val < 8 from (eA X G t).isLt)]; rfl
  rw [he, pay4_eq]
  by_cases h : l.val < 8
  · rw [dif_pos h]
    exact (first_spec (logit X G t)).2 ⟨l.val, h⟩ (Finset.mem_univ _)
  · rw [dif_neg h]; exact .inl (hL _ _)

/-- The greatest logit, and the word of its expert. -/
theorem pay5_eq (t : Fin 2048) : k0_pay5 (F := Ideal) X G (ix2 t 0) = k0_pay4 (F := Ideal) X G (ix2 t (lane (eA X G t))) := by
  pointwise [k0_pay5]
  rw [ninf_bot]
  exact fold_max_row (fun x => k0_pay4 X G (ix2 t x)) _ fun l => by
    rcases eA_lane X G hL t l with h | h
    · exact h.le
    · exact h.1.le

/-- The kernel's first lane number is the first expert. -/
theorem pay6_eq (t : Fin 2048) : k0_pay6 (F := Ideal) X G (ix2 t 0) = BitVec.ofNat 32 (eA X G t).val := by
  pointwise [k0_pay6]
  rw [pay5_eq X G hL]
  exact fold_first_lane (fun x => k0_pay4 X G (ix2 t x)) (lane (eA X G t)) (eA_lane X G hL t)

/-- The logits with the first expert's lane masked. -/
theorem pay7_eq (t : Fin 2048) (l : Fin 128) :
    k0_pay7 (F := Ideal) X G (ix2 t l) = if h : l.val < 8 ∧ l.val ≠ (eA X G t).val then logit X G t ⟨l.val, h.1⟩ else ⊥ := by
  pointwise [k0_pay7]
  rw [mask_bot, pay6_eq X G hL, cmpi_eq_word (by omega) (by omega), pay4_eq]
  by_cases h : l.val = (eA X G t).val
  · rw [decide_eq_true h, dif_neg (fun a : l.val < 8 ∧ l.val ≠ (eA X G t).val => a.2 h)]; rfl
  · rw [decide_eq_false h]
    show (if h : l.val < 8 then _ else _) = _
    by_cases h8 : l.val < 8
    · rw [dif_pos h8, dif_pos ⟨h8, h⟩]
    · rw [dif_neg h8, dif_neg (fun a : l.val < 8 ∧ l.val ≠ (eA X G t).val => h8 a.1)]

/-- The second expert's lane is the first holding the greatest of them. -/
theorem eB_lane (t : Fin 2048) (l : Fin 128) :
    k0_pay7 (F := Ideal) X G (ix2 t l) < k0_pay7 (F := Ideal) X G (ix2 t (lane (eB X G t)))
      ∨ (k0_pay7 (F := Ideal) X G (ix2 t l) = k0_pay7 (F := Ideal) X G (ix2 t (lane (eB X G t))) ∧ lane (eB X G t) ≤ l) := by
  have he : k0_pay7 (F := Ideal) X G (ix2 t (lane (eB X G t))) = logit X G t (eB X G t) := by
    rw [pay7_eq X G hL, dif_pos (show (lane (eB X G t)).val < 8 ∧ (lane (eB X G t)).val ≠ (eA X G t).val from ⟨(eB X G t).isLt, fun h => second_ne (logit X G t) (Fin.ext h)⟩)]; rfl
  rw [he, pay7_eq X G hL]
  by_cases h : l.val < 8 ∧ l.val ≠ (eA X G t).val
  · rw [dif_pos h]
    exact (second_spec (logit X G t)).2 ⟨l.val, h.1⟩ (Finset.mem_erase.2 ⟨fun a => h.2 (congrArg Fin.val a), Finset.mem_univ _⟩)
  · rw [dif_neg h]; exact .inl (hL _ _)

/-- The kernel's second maximum is the masked logit of the second expert. -/
theorem pay8_eq (t : Fin 2048) : k0_pay8 (F := Ideal) X G (ix2 t 0) = k0_pay7 (F := Ideal) X G (ix2 t (lane (eB X G t))) := by
  pointwise [k0_pay8]
  rw [ninf_bot]
  exact fold_max_row (fun x => k0_pay7 X G (ix2 t x)) _ fun l => by
    rcases eB_lane X G hL t l with h | h
    · exact h.le
    · exact h.1.le

/-- The kernel's second lane number is the second expert. -/
theorem pay9_eq (t : Fin 2048) : k0_pay9 (F := Ideal) X G (ix2 t 0) = BitVec.ofNat 32 (eB X G t).val := by
  pointwise [k0_pay9]
  rw [pay8_eq X G hL]
  exact fold_first_lane (fun x => k0_pay7 X G (ix2 t x)) (lane (eB X G t)) (eB_lane X G hL t)

/-- The two logits. -/
theorem top1_eq (t : Fin 2048) : k0_pay5 (F := Ideal) X G (ix2 t 0) = logit X G t (eA X G t) := by
  rw [pay5_eq X G hL, pay4_eq, dif_pos (show (lane (eA X G t)).val < 8 from (eA X G t).isLt)]; rfl

/-- The kernel's second maximum is the logit of the second expert. -/
theorem top2_eq (t : Fin 2048) : k0_pay8 (F := Ideal) X G (ix2 t 0) = logit X G t (eB X G t) := by
  rw [pay8_eq X G hL, pay7_eq X G hL, dif_pos (show (lane (eB X G t)).val < 8 ∧ (lane (eB X G t)).val ≠ (eA X G t).val from ⟨(eB X G t).isLt, fun h => second_ne (logit X G t) (Fin.ext h)⟩)]; rfl

/-- The one-hot rows. -/
theorem hot1_eq (t : Fin 2048) (l : Fin 128) : hot1 (F := Ideal) X G (ix2 t l) = if l.val = (eA X G t).val then 1 else 0 := by
  pointwise [hot1, k0_pay12]
  rw [pay6_eq X G hL, cmpi_eq_word (by omega) (by omega), sitofp_bit]

/-- The second one-hot row is one at the second expert and zero elsewhere. -/
theorem hot2_eq (t : Fin 2048) (l : Fin 128) : hot2 (F := Ideal) X G (ix2 t l) = if l.val = (eB X G t).val then 1 else 0 := by
  pointwise [hot2, k0_pay14, sel2, k0_pay13]
  rw [pay9_eq X G hL, cmpi_eq_word (by omega) (by omega), sitofp_bit]

end Cert.KernelIdeal.Moe

end
-- ==== Proof.Value.Host.lean ====
/-
  What the host hands the routing region: the tokens as rows, and the expert rows of the gate placed in the first eight of the 128 rows.
-/
module

public import proofs.«01_k».proof.Proof.Ideal.Chain
public import proofs.«01_k».proof.Proof.Value.Hot
public import Idealize.ShloMosaic.Lib.Routing.OpsOne

@[expose] public section

noncomputable section

namespace Cert.KernelIdeal.Moe

open Cert.KernelIdeal Cert.KernelIdeal.Gen
open Idealize.ShloMosaic
open Idealize.ShloMosaic.TcCoe Idealize.ShloMosaic.Tactic

variable (m : (ℓ : Loc nD τ sig) → Buf (Elt Ideal) ℓ) (c : Dev nD)

/-- The kernel's arguments. -/
abbrev inX : Vec Ideal S1x2048x768 .f32 := m ((c.tc : Thread nD τ).loc main_arg0)
/-- The gate of the arguments. -/
abbrev inG : Vec Ideal S8x768 .f32 := m ((c.tc : Thread nD τ).loc main_arg1)
/-- The first weights of the arguments. -/
abbrev inUp : Vec Ideal S8x3072x768 .f32 := m ((c.tc : Thread nD τ).loc main_arg2)
/-- The second weights of the arguments. -/
abbrev inDown : Vec Ideal S8x768x3072 .f32 := m ((c.tc : Thread nD τ).loc main_arg3)

/-- The tokens and the padded gate that the routing region reads. -/
abbrev toks : Vec Ideal S2048x768 .f32 := V1 m c main_call0_v0
/-- The padded gate that the routing region reads. -/
abbrev gates : Vec Ideal S128x768 .f32 := V1 m c main_call0_v3

/-- The tokens that the routing region reads are the argument's, reshaped. -/
theorem toks_cast : toks m c = (shapeCast S2048x768 (inX m c) shapeCasts_S1x2048x768_S2048x768 : Vec Ideal S2048x768 .f32) := by
  show StableHlo.after hostOps0 (V0 m c) main_call0_v0 = _
  after_results
  rfl

/-- The padded gate is the argument's gate written into an array of zeros. -/
theorem gates_scatter : gates m c = Host.scatter scatter_S128x768_S1_S8x768_01_n_0_0 (fun _ b => b)
    (broadcastInDim S128x768 ![] bcast_S_S128x768 (constant (F := Ideal) S_ .f32 0x00000000#32)) (broadcastInDim S1 ![] bcast_S_S1 (constantI S_ 32 0#32)) (inG m c) := by
  show StableHlo.after hostOps0 (V0 m c) main_call0_v3 = _
  after_results
  simp only [StableHlo.TRef.toBuf, StableHlo.TRef.ofBuf, StableHlo.TRef.of, cast_eq]

/-- The tokens as rows. -/
theorem toks_eq (t : Fin 2048) (k : Fin 768) : toks m c (ix2 t k) = inX m c (ix3 0 t k) := by
  rw [toks_cast]
  refine shapeCast_apply _ _ _ _ ?_
  rw [Shape.rowMajor_val_three, Shape.rowMajor_val_two]
  show (0 * 2048 + t.val) * 768 + k.val = t.val * 768 + k.val
  omega

/-- The record of the placement. -/
abbrev place : ScatterDims S128x768 S1 S8x768 := scatter_S128x768_S1_S8x768_01_n_0_0

/-- A row of the gate lands on the padded gate's row of the same number. -/
theorem place_lands (idx : IVec S1 32) (h : idx (ValueIdx.ix1 0) = 0#32) (e : Fin 8) (d : Fin 768) (l : Fin 128) (d' : Fin 768) :
    place.resultIdx? (ix2 e d) idx = some (ix2 l d') ↔ e.val = l.val ∧ d = d' := by
  have hm : (0 : Fin 2) ∈ place.scatterDimsToOperandDims := List.mem_singleton.2 rfl
  have hs0 : place.start (ix2 e d) idx 0 = 0 := by
    unfold ScatterDims.start
    rw [dif_pos hm]
    have hsi : place.siIdx (ix2 e d) ⟨place.scatterDimsToOperandDims.idxOf 0, List.idxOf_lt_length_iff.2 hm⟩ = ValueIdx.ix1 (0 : Fin 1) := by
      funext b'
      match b' with
      | ⟨0, _⟩ => exact Subsingleton.elim (α := Fin 1) _ _
    rw [hsi, h]
    rfl
  have hs1 : place.start (ix2 e d) idx 1 = 0 := by
    unfold ScatterDims.start
    rw [dif_neg (show (1 : Fin 2) ∉ place.scatterDimsToOperandDims from by decide)]
  have hw0 : place.window (ix2 e d) 0 = e.val := rfl
  have hw1 : place.window (ix2 e d) 1 = d.val := rfl
  refine (Routing.resultIdx?_ix2 place (ix2 e d) idx l d').trans ?_
  rw [Fin.ext_iff, hs0, hs1, hw0, hw1]
  omega

/-- The first eight rows of the padded gate. -/
theorem gates_eq (e : Fin 8) (d : Fin 768) : gates m c (ix2 (lane e) d) = inG m c (ix2 e d) := by
  rw [gates_scatter]
  have h0 : (broadcastInDim S1 ![] bcast_S_S1 (constantI S_ 32 0#32) : IVec S1 32) (ValueIdx.ix1 0) = 0#32 := rfl
  refine Routing.scatter_set_hit _ _ _ _ _ _ (fun j hj => ?_) (ix2 e d) ((place_lands _ h0 e d (lane e) d).2 ⟨rfl, rfl⟩)
  have hl := (place_lands _ h0 (j 0) (j 1) (lane e) d).1 ((congrArg (fun i => place.resultIdx? i _) (eq_ix2 j).symm).trans hj)
  refine congrArg (inG m c) ((eq_ix2 j).trans ?_)
  rw [show j 0 = e from Fin.ext hl.1, hl.2]

end Cert.KernelIdeal.Moe

end
-- ==== Proof.Value.Slots.lean ====
/-
  The rows the routing kernel gives the pairs of a token and one of its two experts: an expert's pairs, first choices
  before second ones, fill its blocks of 256 rows from the front, and the experts' blocks follow one another.
-/
module

public import Mathlib.Algebra.BigOperators.Fin
public import Mathlib.Algebra.Order.BigOperators.Group.Finset
public import Mathlib.Data.Fintype.Card
public import Mathlib.Tactic.Ring
public import Mathlib.Tactic.NormNum

@[expose] public section

namespace Cert.KernelIdeal.Moe

section Slots

variable (p q : Fin 2048 → Fin 8)

/-- How many tokens `p` sends to `e`. -/
def cnt (e : Fin 8) : ℕ := (Finset.univ.filter fun t => p t = e).card

/-- How many earlier tokens `p` sends where it sends `t`. -/
def rk (t : Fin 2048) : ℕ := (Finset.univ.filter fun t' => t' < t ∧ p t' = p t).card

/-- An expert's pairs, its blocks, the blocks before it, and all blocks. -/
def num (e : Fin 8) : ℕ := cnt p e + cnt q e
/-- An expert's blocks of 256 rows. -/
def blocks (e : Fin 8) : ℕ := (num p q e + 255) / 256
/-- The blocks before an expert's. -/
def before (e : Fin 8) : ℕ := ∑ e' ∈ Finset.univ.filter (· < e), blocks p q e'
/-- All blocks in use. -/
def total : ℕ := ∑ e, blocks p q e

/-- The expert of a pair, its place among that expert's pairs, its row. -/
def ex (t : Fin 2048) (k : Fin 2) : Fin 8 := if k = 0 then p t else q t
/-- A pair's place among its expert's pairs. -/
def off (t : Fin 2048) (k : Fin 2) : ℕ := if k = 0 then rk p t else cnt p (q t) + rk q t
/-- A pair's row. -/
def pos (t : Fin 2048) (k : Fin 2) : ℕ := 256 * before p q (ex p q t k) + off p q t k

/-- A token's rank is below its expert's count, -/
theorem rk_lt (t : Fin 2048) : rk p t < cnt p (p t) :=
  Finset.card_lt_card (Finset.ssubset_iff_of_subset (fun x hx => by
    rw [Finset.mem_filter] at hx ⊢; exact ⟨hx.1, hx.2.2⟩) |>.2 ⟨t, by simp, by simp⟩)

/-- and grows along the tokens of one expert. -/
theorem rk_mono {t t' : Fin 2048} (h : t < t') (e : p t = p t') : rk p t < rk p t' :=
  Finset.card_lt_card (Finset.ssubset_iff_of_subset (fun x hx => by
    rw [Finset.mem_filter] at hx ⊢; exact ⟨hx.1, hx.2.1.trans h, hx.2.2.trans e⟩) |>.2 ⟨t, by simp [h, e], by simp⟩)

/-- Tokens of one expert with one rank are the same token. -/
theorem rk_inj {t t' : Fin 2048} (e : p t = p t') (h : rk p t = rk p t') : t = t' := by
  rcases lt_trichotomy t t' with a | a | a
  · exact absurd h (rk_mono p a e).ne
  · exact a
  · exact absurd h (rk_mono p a e.symm).ne'

/-- A pair's place is below its expert's count, -/
theorem off_lt (t : Fin 2048) (k : Fin 2) : off p q t k < num p q (ex p q t k) := by
  unfold off num ex
  have := rk_lt p t
  have := rk_lt q t
  split <;> omega

/-- and determines the pair within the expert. -/
theorem off_inj {t t' : Fin 2048} {k k' : Fin 2} (e : ex p q t k = ex p q t' k') (h : off p q t k = off p q t' k') : t = t' ∧ k = k' := by
  have hk (k : Fin 2) : k = 0 ∨ k = 1 := by omega
  have a0 := rk_lt p t
  have a1 := rk_lt p t'
  rcases hk k with rfl | rfl <;> rcases hk k' with rfl | rfl
  · exact ⟨rk_inj p e h, rfl⟩
  · exfalso
    have e : p t = q t' := e
    have h : rk p t = cnt p (q t') + rk q t' := h
    rw [e] at a0; omega
  · exfalso
    have e : q t = p t' := e
    have h : cnt p (q t) + rk q t = rk p t' := h
    rw [← e] at a1; omega
  · have e : q t = q t' := e
    have h : cnt p (q t) + rk q t = cnt p (q t') + rk q t' := h
    exact ⟨rk_inj q e (by rw [e] at h; omega), rfl⟩

/-- An expert's blocks lie before the next one's. -/
theorem before_step {e e' : Fin 8} (h : e < e') : before p q e + blocks p q e ≤ before p q e' := by
  unfold before
  rw [← Finset.sum_singleton (blocks p q) e, ← Finset.sum_union (by simp)]
  refine Finset.sum_le_sum_of_subset fun x hx => ?_
  simp only [Finset.mem_union, Finset.mem_filter, Finset.mem_univ, true_and, Finset.mem_singleton] at hx ⊢
  rcases hx with hx | rfl
  · exact hx.trans h
  · exact h

/-- An expert's blocks end within the blocks in use. -/
theorem before_total (e : Fin 8) : before p q e + blocks p q e ≤ total p q := by
  unfold before total
  rw [← Finset.sum_singleton (blocks p q) e, ← Finset.sum_union (by simp)]
  exact Finset.sum_le_sum_of_subset (Finset.subset_univ _)

/-- A pair's row lies in its expert's blocks. -/
theorem pos_lo (t : Fin 2048) (k : Fin 2) : before p q (ex p q t k) ≤ pos p q t k / 256 := by
  unfold pos; omega

/-- A pair's row lies before the end of its expert's blocks. -/
theorem pos_hi (t : Fin 2048) (k : Fin 2) : pos p q t k / 256 < before p q (ex p q t k) + blocks p q (ex p q t k) := by
  have := off_lt p q t k
  unfold pos blocks; omega

/-- A pair's row lies in a block in use. -/
theorem pos_total (t : Fin 2048) (k : Fin 2) : pos p q t k / 256 < total p q :=
  (pos_hi p q t k).trans_le (before_total p q _)

/-- The block of a pair determines its expert, -/
theorem block_ex {t t' : Fin 2048} {k k' : Fin 2} (h : pos p q t k / 256 = pos p q t' k' / 256) : ex p q t k = ex p q t' k' := by
  have a := pos_lo p q t k
  have b := pos_hi p q t k
  have a' := pos_lo p q t' k'
  have b' := pos_hi p q t' k'
  rcases lt_trichotomy (ex p q t k) (ex p q t' k') with c | c | c
  · have := before_step p q c; omega
  · exact c
  · have := before_step p q c; omega

/-- and the row the pair. -/
theorem pos_inj {t t' : Fin 2048} {k k' : Fin 2} (h : pos p q t k = pos p q t' k') : t = t' ∧ k = k' := by
  have e := block_ex p q (show pos p q t k / 256 = pos p q t' k' / 256 by rw [h])
  refine off_inj p q e ?_
  unfold pos at h
  rw [e] at h
  omega

/-- All tokens are sent somewhere. -/
theorem sum_cnt : ∑ e, cnt p e = 2048 := by
  have := Finset.card_eq_sum_card_fiberwise (f := p) (s := Finset.univ) (t := Finset.univ) (fun x _ => Finset.mem_univ _)
  rw [Finset.card_univ, Fintype.card_fin] at this
  exact this.symm

/-- There are at most 23 blocks. -/
theorem total_le : total p q ≤ 23 := by
  have h : ∑ e, 256 * blocks p q e ≤ ∑ e, (num p q e + 255) := Finset.sum_le_sum fun e _ => by unfold blocks; omega
  rw [← Finset.mul_sum, Finset.sum_add_distrib] at h
  have hn : ∑ e, num p q e = 4096 := by
    unfold num
    rw [Finset.sum_add_distrib, sum_cnt, sum_cnt]
  rw [hn] at h
  simp at h
  unfold total
  omega

/-- Counts and rows are small. -/
theorem cnt_le (e : Fin 8) : cnt p e ≤ 2048 := (Finset.card_le_univ _).trans (by simp)

/-- A pair's row is below 5888. -/
theorem pos_lt (t : Fin 2048) (k : Fin 2) : pos p q t k < 5888 := by
  have := pos_total p q t k
  have := total_le p q
  omega

end Slots

end Cert.KernelIdeal.Moe
-- ==== Proof.Value.Counts.lean ====
/-
  The routing kernel's counts at the extended reals: how many tokens choose each expert, its blocks, the blocks before it
  and all blocks.
-/
module

public import proofs.«01_k».proof.Proof.Value.Hot
public import proofs.«01_k».proof.Proof.Value.Slots

@[expose] public section

noncomputable section

namespace Cert.KernelIdeal.Moe

open Cert.KernelIdeal Cert.KernelIdeal.Gen
open Idealize.ShloMosaic

/-- A sum over the lanes whose terms past the experts are zero. -/
theorem sum_lanes {M : Type} [AddCommMonoid M] (f : Fin 128 → M) (h : ∀ l : Fin 128, 8 ≤ l.val → f l = 0) : ∑ l, f l = ∑ e : Fin 8, f (lane e) := by
  have := Fin.sum_univ_add (a := 8) (b := 120) (M := M) f
  refine this.trans ?_
  rw [Finset.sum_eq_zero (s := Finset.univ) (f := fun i : Fin 120 => f (Fin.natAdd 8 i)) (fun i _ => h _ (Nat.le_add_right _ _)), add_zero]
  rfl

/-- A one-hot row picks its lane. -/
theorem sum_hot (f : Fin 128 → EReal) (e : Fin 8) : ∑ x : Fin 128, f x * (if x.val = e.val then 1 else 0) = f (lane e) := by
  rw [Finset.sum_eq_single (lane e)]
  · rw [if_pos (show (lane e).val = e.val from rfl), mul_one]
  · intro b _ hb
    rw [if_neg (show ¬ b.val = e.val from fun h => hb (Fin.ext h)), mul_zero]
  · exact fun h => absurd (Finset.mem_univ _) h

/-- The float 256. -/
theorem f256 : Ideal.ofBits .f32 0x43800000#32 = ((256 : ℕ) : EReal) := by
  rw [Ideal.ofBits]
  simp [Ideal.ieee]
  rw [← EReal.coe_mul]
  norm_num
  rfl

variable (X : Vec Ideal S2048x768 .f32) (G : Vec Ideal S128x768 .f32)

/-- How many tokens `p` sends to a lane. -/
def laneCnt (p : Fin 2048 → Fin 8) (l : ℕ) : ℕ := (Finset.univ.filter fun t => l = (p t).val).card

/-- On an expert's lane it is the expert's count. -/
theorem laneCnt_lane (p : Fin 2048 → Fin 8) (e : Fin 8) : laneCnt p (lane e).val = cnt p e := by
  unfold laneCnt cnt
  congr 1
  ext t
  simp only [Finset.mem_filter, Finset.mem_univ, true_and]
  exact ⟨fun h => (Fin.ext h).symm, fun h => congrArg Fin.val h.symm⟩

/-- A lane's count is at most the number of tokens. -/
theorem laneCnt_le (p : Fin 2048 → Fin 8) (l : ℕ) : laneCnt p l ≤ 2048 := (Finset.card_le_univ _).trans (by simp)

/-- The lanes past the experts have no tokens. -/
theorem laneCnt_zero (p : Fin 2048 → Fin 8) (l : ℕ) (h : 8 ≤ l) : laneCnt p l = 0 := by
  unfold laneCnt
  rw [Finset.card_eq_zero, Finset.filter_eq_empty_iff]
  intro t _ ht
  have := (p t).isLt
  omega

/-- A lane's blocks. -/
def laneBlocks (p q : Fin 2048 → Fin 8) (l : ℕ) : ℕ := (laneCnt p l + laneCnt q l + 255) / 256

/-- On an expert's lane they are the expert's blocks. -/
theorem laneBlocks_lane (p q : Fin 2048 → Fin 8) (e : Fin 8) : laneBlocks p q (lane e).val = blocks p q e := by
  unfold laneBlocks blocks num
  rw [laneCnt_lane, laneCnt_lane]

/-- The lanes past the experts have no blocks. -/
theorem laneBlocks_zero (p q : Fin 2048 → Fin 8) (l : ℕ) (h : 8 ≤ l) : laneBlocks p q l = 0 := by
  unfold laneBlocks
  rw [laneCnt_zero p l h, laneCnt_zero q l h]

variable (hL : ∀ t e, ⊥ < logit X G t e)
include hL

/-- The counts of first choices, and of both. -/
theorem cntA_eq (l : Fin 128) : cntA (F := Ideal) X G (ix2 0 l) = (laneCnt (eA X G) l.val : EReal) := by
  pointwise [cntA, k0_pay15]
  simp only [hot1_eq X G hL, Finset.sum_boole]
  rfl

/-- The kernel's second row of counts counts both choices of each lane. -/
theorem cntB_eq (l : Fin 128) : cntB (F := Ideal) X G (ix2 0 l) = ((laneCnt (eA X G) l.val + laneCnt (eB X G) l.val : ℕ) : EReal) := by
  have h2 : k0_pay14 (F := Ideal) (sel2 X G) = hot2 X G := rfl
  pointwise [cntB, k0_pay16, k0_pay15]
  simp only [h2, hot1_eq X G hL, hot2_eq X G hL, Finset.sum_boole, Nat.cast_add]
  rfl

/-- The blocks of a lane, as the kernel divides. -/
theorem pay40_eq (l : Fin 128) : k0_pay40 (F := Ideal) (cntB X G) (ix2 0 l) = (laneBlocks (eA X G) (eB X G) l.val : EReal) := by
  have ha := laneCnt_le (eA X G) l.val
  have hb := laneCnt_le (eB X G) l.val
  pointwise [k0_pay40]
  rw [cntB_eq X G hL, fptosi_nat (by omega), show (255#32) = BitVec.ofNat 32 255 from rfl,
    show ∀ a b : ℕ, IntOp.addi (BitVec.ofNat 32 a) (BitVec.ofNat 32 b) = BitVec.ofNat 32 (a + b) from fun a b => (BitVec.ofNat_add a b).symm,
    floor256 (by omega), sitofp_word (by omega)]
  rfl

/-- All blocks. -/
theorem pay41_eq : k0_pay41 (F := Ideal) (cntB X G) (ix2 0 0) = (total (eA X G) (eB X G) : EReal) := by
  pointwise [k0_pay41]
  simp only [pay40_eq X G hL]
  rw [← Nat.cast_sum, sum_lanes _ (fun l h => laneBlocks_zero _ _ _ h)]
  simp only [laneBlocks_lane]
  rfl

/-- The first row of an expert. -/
theorem base_eq (e : Fin 8) : base (F := Ideal) X G (ix2 0 (lane e)) = ((256 * before (eA X G) (eB X G) e : ℕ) : EReal) := by
  pointwise [base, k0_pay42]
  have hc (x : Fin 128) : (FloatOps.sitofp .f32 (BitVec.setWidth 32 (IntOp.cmpi .slt (BitVec.ofNat 32 x.val) (BitVec.ofNat 32 (lane e).val))) : Ideal .f32)
      = (if x.val < e.val then 1 else 0 : EReal) := by
    rw [cmpi_slt_word (by omega) (by omega), sitofp_bit]; rfl
  simp only [hc, pay40_eq X G hL]
  rw [sum_lanes _ (fun l h => by rw [laneBlocks_zero _ _ _ h, Nat.cast_zero, zero_mul])]
  simp only [laneBlocks_lane, mul_ite, mul_one, mul_zero]
  rw [← Finset.sum_filter, ← Nat.cast_sum, show Ideal.ofBits .f32 1132462080#32 = ((256 : ℕ) : EReal) from f256, ← EReal.natCast_mul, mul_comm]
  rfl

end Cert.KernelIdeal.Moe

end
-- ==== Proof.Value.Ranks.lean ====
/-
  The ranks: a token's place among the tokens sent to the same expert, counted over four tiles of 512 tokens.
-/
module

public import proofs.«01_k».proof.Proof.Value.Counts

@[expose] public section

noncomputable section

namespace Cert.KernelIdeal.Moe

open Cert.KernelIdeal Cert.KernelIdeal.Gen
open Idealize.ShloMosaic

/-- A masked sum over a tile's rows, after the rows before the tile. -/
theorem tile_sum (f : ℕ → EReal) (a t : ℕ) (ht : t ≤ 512) :
    ∑ x : Fin 512, (if x.val < t then 1 else 0) * f (a + x.val) + ∑ n ∈ Finset.range a, f n = ∑ n ∈ Finset.range (a + t), f n := by
  rw [Finset.sum_range_add, add_comm]
  congr 1
  rw [← Finset.sum_range (fun n => (if n < t then 1 else 0) * f (a + n))]
  simp only [ite_mul, one_mul, zero_mul]
  rw [← Finset.sum_filter]
  refine Finset.sum_congr ?_ fun _ _ => rfl
  ext n
  simp only [Finset.mem_filter, Finset.mem_range]
  omega

/-- A whole tile's rows, after the rows before it. -/
theorem tile_whole (f : ℕ → EReal) (a : ℕ) :
    ∑ n ∈ Finset.range a, f n + ∑ x : Fin 512, f (a + x.val) = ∑ n ∈ Finset.range (a + 512), f n := by
  rw [Finset.sum_range_add, ← Finset.sum_range (fun n => f (a + n))]

/-- A sum over the numbers below a token's is a sum over the earlier tokens. -/
theorem sum_earlier {n : ℕ} (F : ℕ → EReal) (t : Fin n) : ∑ i ∈ Finset.range t.val, F i = ∑ x : Fin n, if x < t then F x.val else 0 := by
  refine Eq.trans ?_ (Finset.sum_range (fun i => if i < t.val then F i else 0))
  rw [← Finset.sum_filter]
  refine Finset.sum_congr ?_ fun _ _ => rfl
  ext i
  simp only [Finset.mem_filter, Finset.mem_range]
  omega

variable (X : Vec Ideal S2048x768 .f32) (G : Vec Ideal S128x768 .f32)

/-- A column of the two one-hot arrays laid side by side, by row number. -/
def hcol (l : Fin 256) (n : ℕ) : EReal := if h : n < 2048 then hots (F := Ideal) X G (ix2 ⟨n, h⟩ l) else 0

/-- An element of the two one-hot arrays laid side by side is that column's entry. -/
theorem hots_col (l : Fin 256) (n : ℕ) (h : n < 2048) : hots (F := Ideal) X G (ix2 ⟨n, h⟩ l) = hcol X G l n := by
  unfold hcol; rw [dif_pos h]

/-- The strictly lower triangle. -/
theorem pay18_eq (t x : Fin 512) : k0_pay18 (F := Ideal) (ix2 t x) = (if x.val < t.val then 1 else 0 : EReal) := by
  pointwise [k0_pay18]
  rw [cmpi_slt_word (by omega) (by omega), sitofp_bit]

/-- The column's sum over the first tile. -/
theorem run1_eq (l : Fin 256) : run1 (F := Ideal) X G (ix2 0 l) = ∑ n ∈ Finset.range 512, hcol X G l n := by
  have h : k0_pay19 (F := Ideal) (hot1 X G) (sel2 X G) = hots X G := rfl
  pointwise [run1, k0_pay23, k0_pay21, k0_pay20]
  simp only [h, hots_col]
  exact (Finset.sum_range (fun n => hcol X G l n)).symm

/-- Each tile's counts: the column's sum over the rows before. -/
theorem tile0_eq (t : Fin 512) (l : Fin 256) :
    k0_pay22 (F := Ideal) (hot1 X G) (sel2 X G) (ix2 t l) = ∑ n ∈ Finset.range t.val, hcol X G l n := by
  have h : k0_pay19 (F := Ideal) (hot1 X G) (sel2 X G) = hots X G := rfl
  pointwise [k0_pay22, k0_pay21, k0_pay20]
  simp only [h, pay18_eq, hots_col]
  have := tile_sum (hcol X G l) 0 t.val (by omega)
  simpa only [Nat.zero_add, Finset.range_zero, Finset.sum_empty, add_zero] using this

/-- The second tile's running sums count the tokens before each of its own. -/
theorem tile1_eq (t : Fin 512) (l : Fin 256) :
    k0_pay27 (F := Ideal) k0_pay18 (hots X G) (run1 X G) (ix2 t l) = ∑ n ∈ Finset.range (512 + t.val), hcol X G l n := by
  pointwise [k0_pay27, k0_pay26]
  simp only [pay18_eq, hots_col, run1_eq]
  exact tile_sum (hcol X G l) 512 t.val (by omega)

/-- The third tile's running sums count the tokens before each of its own. -/
theorem tile2_eq (t : Fin 512) (l : Fin 256) :
    k0_pay32 (F := Ideal) k0_pay18 (hots X G) (run1 X G) (ix2 t l) = ∑ n ∈ Finset.range (1024 + t.val), hcol X G l n := by
  pointwise [k0_pay32, k0_pay31, k0_pay28, k0_pay26]
  simp only [pay18_eq, hots_col, run1_eq, tile_whole]
  exact tile_sum (hcol X G l) 1024 t.val (by omega)

/-- The fourth tile's running sums count the tokens before each of its own. -/
theorem tile3_eq (t : Fin 512) (l : Fin 256) :
    k0_pay35 (F := Ideal) k0_pay18 (hots X G) (run1 X G) (ix2 t l) = ∑ n ∈ Finset.range (1536 + t.val), hcol X G l n := by
  pointwise [k0_pay35, k0_pay31, k0_pay28, k0_pay26]
  simp only [pay18_eq, hots_col, run1_eq, tile_whole]
  exact tile_sum (hcol X G l) 1536 t.val (by omega)

variable (hL : ∀ t e, ⊥ < logit X G t e)
include hL

/-- The columns, by row. -/
theorem hcol_A (e : Fin 8) (t : Fin 2048) : hcol X G ⟨(lane e).val, by omega⟩ t.val = if eA X G t = e then 1 else 0 := by
  unfold hcol
  rw [dif_pos t.isLt]
  pointwise [hots, k0_pay19]
  rw [hot1_eq X G hL]
  exact if_congr ⟨fun h => (Fin.ext h).symm, fun h => congrArg Fin.val h.symm⟩ rfl rfl

/-- A column of the second half is one where the second choice is that expert. -/
theorem hcol_B (e : Fin 8) (t : Fin 2048) : hcol X G ⟨128 + (lane e).val, by omega⟩ t.val = if eB X G t = e then 1 else 0 := by
  have h2 : k0_pay14 (F := Ideal) (sel2 X G) = hot2 X G := rfl
  unfold hcol
  rw [dif_pos t.isLt]
  pointwise [hots, k0_pay19]
  rw [h2, hot2_eq X G hL]
  exact if_congr ⟨fun h => (Fin.ext h).symm, fun h => congrArg Fin.val h.symm⟩ rfl rfl

/-- The sums of a token's own columns are its ranks. -/
theorem own_A (t : Fin 2048) : ∑ n ∈ Finset.range t.val, hcol X G ⟨(lane (eA X G t)).val, by omega⟩ n = (rk (eA X G) t : EReal) := by
  rw [sum_earlier]
  simp only [hcol_A X G hL, ← ite_and, Finset.sum_boole]
  rfl

/-- The running sum of a token's own column of the second half is its rank. -/
theorem own_B (t : Fin 2048) : ∑ n ∈ Finset.range t.val, hcol X G ⟨128 + (lane (eB X G t)).val, by omega⟩ n = (rk (eB X G) t : EReal) := by
  rw [sum_earlier]
  simp only [hcol_B X G hL, ← ite_and, Finset.sum_boole]
  rfl

/-- A token's one-hot row picks its own column's sum, which is its rank. -/
theorem pick_A (t : Fin 2048) (P : Fin 128 → EReal) (hP : ∀ x, P x = ∑ n ∈ Finset.range t.val, hcol X G ⟨x.val, by omega⟩ n) :
    ∑ x : Fin 128, P x * hot1 (F := Ideal) X G (ix2 t x) = (rk (eA X G) t : EReal) := by
  simp only [hot1_eq X G hL]
  exact (sum_hot P _).trans ((hP _).trans (own_A X G hL t))

/-- A token's second one-hot row picks its own column's sum, which is its rank. -/
theorem pick_B (t : Fin 2048) (P : Fin 128 → EReal) (hP : ∀ x, P x = ∑ n ∈ Finset.range t.val, hcol X G ⟨128 + x.val, by omega⟩ n) :
    ∑ x : Fin 128, P x * hot2 (F := Ideal) X G (ix2 t x) = (rk (eB X G) t : EReal) := by
  simp only [hot2_eq X G hL]
  exact (sum_hot P _).trans ((hP _).trans (own_B X G hL t))

/-- The first ranks of each tile. -/
theorem rankA_0 (t : Fin 512) : k0_pay24 (F := Ideal) (hot1 X G) (sel2 X G) (ix2 t 0) = (rk (eA X G) ⟨t.val, by omega⟩ : EReal) := by
  pointwise [k0_pay24]
  exact pick_A X G hL ⟨t.val, by omega⟩ _ fun x => tile0_eq X G t _
/-- The first ranks of the second tile. -/
theorem rankA_1 (t : Fin 512) :
    k0_pay29 (F := Ideal) (hot1 X G) k0_pay18 (hots X G) (run1 X G) (ix2 t 0) = (rk (eA X G) ⟨512 + t.val, by omega⟩ : EReal) := by
  pointwise [k0_pay29]
  exact pick_A X G hL ⟨512 + t.val, by omega⟩ _ fun x => tile1_eq X G t _
/-- The first ranks of the third tile. -/
theorem rankA_2 (t : Fin 512) :
    k0_pay33 (F := Ideal) (hot1 X G) k0_pay18 (hots X G) (run1 X G) (ix2 t 0) = (rk (eA X G) ⟨1024 + t.val, by omega⟩ : EReal) := by
  pointwise [k0_pay33]
  exact pick_A X G hL ⟨1024 + t.val, by omega⟩ _ fun x => tile2_eq X G t _
/-- The first ranks of the fourth tile. -/
theorem rankA_3 (t : Fin 512) :
    k0_pay37 (F := Ideal) (hot1 X G) k0_pay18 (hots X G) (run1 X G) (ix2 t 0) = (rk (eA X G) ⟨1536 + t.val, by omega⟩ : EReal) := by
  pointwise [k0_pay37]
  exact pick_A X G hL ⟨1536 + t.val, by omega⟩ _ fun x => tile3_eq X G t _

/-- A token's rank among those of its first expert. -/
theorem rankA_eq (t : Fin 2048) : rankA (F := Ideal) X G (ix2 t 0) = (rk (eA X G) t : EReal) := by
  have e (n : ℕ) (h : n < 2048) (hn : n = t.val) : (rk (eA X G) ⟨n, h⟩ : EReal) = (rk (eA X G) t : EReal) := by subst hn; rfl
  pointwise [rankA, k0_pay38]
  split
  · exact (rankA_0 X G hL _).trans (e _ _ rfl)
  · split
    · exact (rankA_1 X G hL _).trans (e _ _ (by simp only []; omega))
    · split
      · exact (rankA_2 X G hL _).trans (e _ _ (by simp only []; omega))
      · exact (rankA_3 X G hL _).trans (e _ _ (by simp only []; omega))

/-- The second ranks of each tile. -/
theorem rankB_0 (t : Fin 512) : k0_pay25 (F := Ideal) (hot1 X G) (sel2 X G) (ix2 t 0) = (rk (eB X G) ⟨t.val, by omega⟩ : EReal) := by
  have h2 : k0_pay14 (F := Ideal) (sel2 X G) = hot2 X G := rfl
  pointwise [k0_pay25]
  rw [h2]
  exact pick_B X G hL ⟨t.val, by omega⟩ _ fun x => tile0_eq X G t _
/-- The second ranks of the second tile. -/
theorem rankB_1 (t : Fin 512) :
    k0_pay30 (F := Ideal) (hot2 X G) k0_pay18 (hots X G) (run1 X G) (ix2 t 0) = (rk (eB X G) ⟨512 + t.val, by omega⟩ : EReal) := by
  pointwise [k0_pay30]
  exact pick_B X G hL ⟨512 + t.val, by omega⟩ _ fun x => tile1_eq X G t _
/-- The second ranks of the third tile. -/
theorem rankB_2 (t : Fin 512) :
    k0_pay34 (F := Ideal) (hot2 X G) k0_pay18 (hots X G) (run1 X G) (ix2 t 0) = (rk (eB X G) ⟨1024 + t.val, by omega⟩ : EReal) := by
  pointwise [k0_pay34]
  exact pick_B X G hL ⟨1024 + t.val, by omega⟩ _ fun x => tile2_eq X G t _

/-- The second ranks of the fourth tile. -/
theorem rankB_3 (t : Fin 512) :
    ∑ x : Fin 128, k0_pay35 (F := Ideal) k0_pay18 (hots X G) (run1 X G) (ix2 t ⟨128 + x.val, by omega⟩) * k0_pay36 (hot2 X G) (ix2 t x)
      = (rk (eB X G) ⟨1536 + t.val, by omega⟩ : EReal) := by
  have h (x : Fin 128) : k0_pay36 (hot2 X G) (ix2 t x) = hot2 X G (ix2 ⟨1536 + t.val, by omega⟩ x) := by pointwise [k0_pay36]
  simp only [h]
  exact pick_B X G hL ⟨1536 + t.val, by omega⟩ _ fun x => tile3_eq X G t _

set_option maxRecDepth 65536 in
omit hL in
/-- The second ranks of the four tiles, one after another. -/
theorem ladder_B (a b c : FVec Ideal S512x1 .f32) (d : FVec Ideal S512x256 .f32) (H : FVec Ideal S512x128 .f32) (t : Fin 2048) :
    k0_pay39 a b c d H (ix2 t 0) = if h0 : t.val < 512 then a (ix2 ⟨t.val, h0⟩ 0)
      else if h1 : t.val - 512 < 512 then b (ix2 ⟨t.val - 512, h1⟩ 0)
      else if h2 : t.val - 512 - 512 < 512 then c (ix2 ⟨t.val - 512 - 512, h2⟩ 0)
      else ∑ x : Fin 128, d (ix2 ⟨t.val - 512 - 512 - 512, by omega⟩ ⟨128 + x.val, by omega⟩) * H (ix2 ⟨t.val - 512 - 512 - 512, by omega⟩ x) := by
  pointwise [k0_pay39]

/-- A token's rank among those of its second expert. -/
theorem rankB_eq (t : Fin 2048) : rankB (F := Ideal) X G (ix2 t 0) = (rk (eB X G) t : EReal) := by
  have e (n : ℕ) (h : n < 2048) (hn : n = t.val) : (rk (eB X G) ⟨n, h⟩ : EReal) = (rk (eB X G) t : EReal) := by subst hn; rfl
  refine (ladder_B _ _ _ _ _ t).trans ?_
  split
  · exact (rankB_0 X G hL _).trans (e _ _ rfl)
  · split
    · exact (rankB_1 X G hL _).trans (e _ _ (by simp only []; omega))
    · split
      · exact (rankB_2 X G hL _).trans (e _ _ (by simp only []; omega))
      · exact (rankB_3 X G hL _).trans (e _ _ (by simp only []; omega))

end Cert.KernelIdeal.Moe

end
-- ==== Proof.Value.Positions.lean ====
/-
  The routing kernel's two tables at the extended reals: each pair's row, each block's expert and the number of blocks.
-/
module

public import proofs.«01_k».proof.Proof.Value.Ranks

@[expose] public section

noncomputable section

namespace Cert.KernelIdeal.Moe

open Cert.KernelIdeal Cert.KernelIdeal.Gen
open Idealize.ShloMosaic

/-- The greater of two words is that of the integers they stand for. -/
theorem toInt_maxsi (a b : BitVec 32) : (IntOp.maxsi a b).toInt = max a.toInt b.toInt := by
  unfold IntOp.maxsi
  rw [BitVec.slt]
  by_cases h : b.toInt < a.toInt
  · simp only [h, decide_true, if_true]; omega
  · simp only [h, decide_false]
    rw [if_neg (by simp)]; omega

/-- The greatest of many words is that of the integers they stand for. -/
theorem toInt_fold_maxsi {ι : Type} (s : Finset ι) (w : BitVec 32) (f : ι → BitVec 32) :
    (s.fold IntOp.maxsi w f).toInt = s.fold max w.toInt (fun x => (f x).toInt) := by
  classical
  induction s using Finset.induction_on with
  | empty => rfl
  | insert a s ha ih => rw [Finset.fold_insert ha, Finset.fold_insert ha, toInt_maxsi, ih]

/-- The integer a small word stands for. -/
theorem toInt_word {n : ℕ} (h : n < 2 ^ 31) : (BitVec.ofNat 32 n).toInt = n := by
  rw [BitVec.toInt_eq_toNat_of_lt (by rw [BitVec.toNat_ofNat]; omega), BitVec.toNat_ofNat, Nat.mod_eq_of_lt (by omega)]

/-- The greatest of many words, where a number bounds them and is among them. -/
theorem fold_max_word {ι : Type} [Fintype ι] (f : ι → BitVec 32) {e : ℕ} (he : e < 2 ^ 31) (hle : ∀ x, (f x).toInt ≤ e) (hx : ∃ x, (f x).toInt = e) :
    Finset.univ.fold IntOp.maxsi 2147483648#32 f = BitVec.ofNat 32 e := by
  apply BitVec.eq_of_toInt_eq
  rw [toInt_fold_maxsi, toInt_word he]
  apply le_antisymm
  · rw [Finset.fold_max_le]
    exact ⟨by rw [show (2147483648#32).toInt = -2147483648 by decide]; omega, fun x _ => hle x⟩
  · rw [Finset.le_fold_max]
    obtain ⟨x, hx⟩ := hx
    exact .inr ⟨x, Finset.mem_univ _, hx.ge⟩

variable (X : Vec Ideal S2048x768 .f32) (G : Vec Ideal S128x768 .f32)
variable (hL : ∀ t e, ⊥ < logit X G t e)
include hL

/-- The rows of a token's two pairs, as floats. -/
theorem pay44_eq (t : Fin 2048) :
    k0_pay44 (F := Ideal) (rankA X G) (baseHot X G) (ix2 t 0) = (pos (eA X G) (eB X G) t 0 : EReal) := by
  have hb : k0_pay42 (F := Ideal) (cntB X G) = base X G := rfl
  pointwise [k0_pay44, baseHot, k0_pay43]
  simp only [hb, hot1_eq X G hL, rankA_eq X G hL]
  rw [sum_hot (fun x => base (F := Ideal) X G (ix2 0 x)), base_eq X G hL, ← Nat.cast_add]
  rfl

/-- The kernel's second row number is the position of the token's second pair. -/
theorem pay45_eq (t : Fin 2048) :
    k0_pay45 (F := Ideal) (hot2 X G) (cntA X G) (rankB X G) (base X G) (ix2 t 0) = (pos (eA X G) (eB X G) t 1 : EReal) := by
  pointwise [k0_pay45]
  simp only [hot2_eq X G hL, rankB_eq X G hL]
  rw [sum_hot (fun x => base (F := Ideal) X G (ix2 0 x) + cntA (F := Ideal) X G (ix2 0 x)), base_eq X G hL, cntA_eq X G hL, laneCnt_lane, ← Nat.cast_add, ← Nat.cast_add,
    Nat.add_assoc]
  rfl

/-- The table of positions holds a token's two rows in its first two lanes. -/
theorem posT_0 (t : Fin 2048) : posT (F := Ideal) X G (ix2 t 0) = BitVec.ofNat 32 (pos (eA X G) (eB X G) t 0) := by
  have h := pos_lt (eA X G) (eB X G) t 0
  pointwise [posT, k0_pay46, lanes]
  rw [pay44_eq X G hL]
  exact fptosi_nat (by omega)

/-- Lane 1 of the table of positions is the position of the token's second pair. -/
theorem posT_1 (t : Fin 2048) : posT (F := Ideal) X G (ix2 t 1) = BitVec.ofNat 32 (pos (eA X G) (eB X G) t 1) := by
  have h := pos_lt (eA X G) (eB X G) t 1
  pointwise [posT, k0_pay46, lanes]
  rw [pay45_eq X G hL]
  exact fptosi_nat (by omega)

/-- A block holding a pair has that pair's expert in the blocks' table. -/
theorem blkE_eq (b : Fin 128) (t : Fin 2048) (k : Fin 2) (hb : pos (eA X G) (eB X G) t k / 256 = b.val) :
    blkE (F := Ideal) X G (ix2 0 b) = BitVec.ofNat 32 (ex (eA X G) (eB X G) t k).val := by
  pointwise [blkE, k0_pay51, lanes, k0_pay48, k0_pay49, k0_pay50, k0_pay47]
  have hw (x : Fin 2048) (k : Fin 2) : FloatOps.fptosi (F := Ideal) (φ := .f32) 32 ((pos (eA X G) (eB X G) x k : EReal) : Ideal .f32)
      = BitVec.ofNat 32 (pos (eA X G) (eB X G) x k) := fptosi_nat (by have := pos_lt (eA X G) (eB X G) x k; omega)
  have hf (x : Fin 2048) (k : Fin 2) := floor256 (a := pos (eA X G) (eB X G) x k) (by have := pos_lt (eA X G) (eB X G) x k; omega)
  have hc (x : Fin 2048) (k : Fin 2) (e : Fin 8) : Scalar.select (IntOp.cmpi .eq (BitVec.ofNat 32 (pos (eA X G) (eB X G) x k / 256)) (BitVec.ofNat 32 b.val))
      (BitVec.ofNat 32 e.val) 4294967295#32 = if pos (eA X G) (eB X G) x k / 256 = b.val then BitVec.ofNat 32 e.val else 4294967295#32 := by
    rw [cmpi_eq_word (by have := pos_lt (eA X G) (eB X G) x k; omega) (by omega)]
    exact if_congr ofBool_one rfl rfl
  simp only [pay44_eq X G hL, pay45_eq X G hL, hw, hf, pay6_eq X G hL, pay9_eq X G hL, hc]
  have hm : (4294967295#32).toInt = -1 := by decide
  have he (e : Fin 8) : (BitVec.ofNat 32 e.val).toInt = e.val := toInt_word (by omega)
  have hle (x : Fin 2048) (k' : Fin 2) (h : pos (eA X G) (eB X G) x k' / 256 = b.val) : ex (eA X G) (eB X G) x k' = ex (eA X G) (eB X G) t k :=
    block_ex _ _ (h.trans hb.symm)
  have hle0 (x : Fin 2048) := hle x 0
  have hle1 (x : Fin 2048) := hle x 1
  rw [fold_max_word (e := (ex (eA X G) (eB X G) t k).val) _ (by omega) ?_ ?_]
  · rw [show (0#32) = BitVec.ofNat 32 0 from rfl, maxsi_word (by omega) (by omega), show (7#32) = BitVec.ofNat 32 7 from rfl,
      minsi_word (by omega) (by omega)]
    congr 1
    omega
  · intro x
    rw [toInt_maxsi]
    apply max_le
    · split
      · rename_i h
        rw [he, ← hle0 x h]; exact le_rfl
      · rw [hm]; omega
    · split
      · rename_i h
        rw [he, ← hle1 x h]; exact le_rfl
      · rw [hm]; omega
  · refine ⟨t, ?_⟩
    rw [toInt_maxsi]
    apply le_antisymm
    · apply max_le
      · split
        · rename_i h
          rw [he, ← hle0 t h]; exact le_rfl
        · rw [hm]; omega
      · split
        · rename_i h
          rw [he, ← hle1 t h]; exact le_rfl
        · rw [hm]; omega
    · rcases (by omega : k = 0 ∨ k = 1) with rfl | rfl
      · refine le_trans ?_ (le_max_left _ _)
        rw [if_pos hb, he]; exact le_rfl
      · refine le_trans ?_ (le_max_right _ _)
        rw [if_pos hb, he]; exact le_rfl

/-- The last word of the grid's part of the table is the number of blocks. -/
theorem beT_total : beT (F := Ideal) X G (ix2 0 24) = BitVec.ofNat 32 (total (eA X G) (eB X G)) := by
  have h := total_le (eA X G) (eB X G)
  pointwise [beT, k0_pay1, lanes]
  rw [pay41_eq X G hL]
  exact fptosi_nat (by omega)

end Cert.KernelIdeal.Moe

end
-- ==== Proof.Value.Block.lean ====
/-
  What the main kernel adds for one block of 256 rows, at the extended reals: the products of the pairs whose rows lie in the block.
-/
module

public import proofs.«01_k».proof.Proof.Ideal.Common
public import proofs.«01_k».proof.Proof.Value.Lanes

@[expose] public section

noncomputable section

namespace Cert.KernelIdeal.Moe

open Cert.KernelIdeal Cert.KernelIdeal.Gen
open Idealize.ShloMosaic

/-- The activation. -/
def silu (z : EReal) : EReal := z * Ideal.logistic z

/-- The activation is zero at zero. -/
theorem silu_zero : silu 0 = 0 := zero_mul _

/-- The activation is never minus infinity. -/
theorem silu_ne_bot (z : EReal) : silu z ≠ ⊥ := by
  unfold silu
  induction z with
  | bot => rw [Ideal.logistic_bot, mul_zero]; exact EReal.zero_ne_bot
  | coe r => rw [Ideal.logistic_coe, ← EReal.coe_mul]; exact EReal.coe_ne_bot _
  | top => rw [Ideal.logistic_top, mul_one]; exact top_ne_bot

/-- A finite factor distributes over a sum whose terms are not minus infinity. -/
theorem add_mul_fin (a b w : EReal) (ha : a ≠ ⊥) (hb : b ≠ ⊥) (hw : w ≠ ⊥) (hw' : w ≠ ⊤) : (a + b) * w = a * w + b * w := by
  rcases le_total 0 w with h | h
  · exact EReal.right_distrib_of_nonneg_of_ne_top h hw' a b
  · have h' : 0 ≤ -w := EReal.neg_nonneg.2 h
    have ht : -w ≠ ⊤ := fun e => hw (EReal.neg_eq_top_iff.1 e)
    have hn (c : EReal) (hc : c ≠ ⊥) : c * -w ≠ ⊥ := by
      lift -w to ℝ using ⟨ht, fun e => by rw [e] at h'; exact absurd h' (by decide)⟩ with v
      have hv : 0 ≤ v := EReal.coe_nonneg.1 h'
      induction c with
      | bot => exact absurd rfl hc
      | coe r => rw [← EReal.coe_mul]; exact EReal.coe_ne_bot _
      | top =>
        rcases hv.eq_or_lt with e | e
        · rw [← e, EReal.coe_zero, mul_zero]; exact EReal.zero_ne_bot
        · rw [EReal.top_mul_coe_of_pos e]; exact top_ne_bot
    have hd := EReal.right_distrib_of_nonneg_of_ne_top h' ht a b
    have e (c : EReal) : c * w = -(c * -w) := by rw [mul_neg, neg_neg]
    rw [e (a + b), e a, e b, hd, EReal.neg_add (.inl (hn a ha)) (.inr (hn b hb)), sub_eq_add_neg]

/-- A finite sum of terms none of which is minus infinity is not minus infinity. -/
theorem sum_ne_bot {ι : Type} (s : Finset ι) (g : ι → EReal) (h : ∀ i, g i ≠ ⊥) : ∑ i ∈ s, g i ≠ ⊥ := by
  classical
  induction s using Finset.induction_on with
  | empty => simp
  | insert a s ha ih =>
    rw [Finset.sum_insert ha]
    exact EReal.add_ne_bot_iff.2 ⟨h a, ih⟩

/-- A finite factor goes into a sum none of whose terms is minus infinity. -/
theorem sum_mul_fin {ι : Type} (s : Finset ι) (g : ι → EReal) (h : ∀ i, g i ≠ ⊥) (w : EReal) (hw : w ≠ ⊥) (hw' : w ≠ ⊤) :
    (∑ i ∈ s, g i) * w = ∑ i ∈ s, g i * w := by
  classical
  induction s using Finset.induction_on with
  | empty => simp
  | insert a s ha ih =>
    rw [Finset.sum_insert ha, Finset.sum_insert ha, add_mul_fin _ _ _ (h a) (sum_ne_bot s g h) hw hw', ih]

variable (pp : Fin 2048 → Fin 2 → ℕ) (hpp : ∀ t k t' k', pp t k = pp t' k' → t = t' ∧ k = k')

/-- Whether row `n` is one of a token's two. -/
def Hit (n : ℕ) (t : Fin 2048) : Prop := pp t 0 = n ∨ pp t 1 = n

/-- It is decidable whether a row is one of a token's two. -/
instance (n : ℕ) (t : Fin 2048) : Decidable (Hit pp n t) := inferInstanceAs (Decidable (_ ∨ _))

/-- The token gathered in row `n`, or zero. -/
def gathered (X : Fin 2048 → Fin 768 → EReal) (n : ℕ) (k : Fin 768) : EReal := ∑ t, (if Hit pp n t then 1 else 0) * X t k

include hpp in
/-- The activation of a gathered row is that of the one pair in the row, or zero. -/
theorem silu_gathered (X : Fin 2048 → Fin 768 → EReal) (w : Fin 768 → EReal) (n : ℕ) :
    silu (∑ k, gathered pp X n k * w k) = ∑ t, ∑ κ, if pp t κ = n then silu (∑ k, X t k * w k) else 0 := by
  by_cases h : ∃ t κ, pp t κ = n
  · obtain ⟨t, κ, h⟩ := h
    have hg (k : Fin 768) : gathered pp X n k = X t k := by
      unfold gathered
      rw [Finset.sum_eq_single t]
      · rw [if_pos, one_mul]
        rcases (by omega : κ = 0 ∨ κ = 1) with rfl | rfl
        · exact .inl h
        · exact .inr h
      · intro t' _ ht
        rw [if_neg, zero_mul]
        rintro (h' | h')
        · exact ht (hpp _ _ _ _ (h'.trans h.symm)).1
        · exact ht (hpp _ _ _ _ (h'.trans h.symm)).1
      · exact fun h => absurd (Finset.mem_univ _) h
    rw [Finset.sum_eq_single t, Finset.sum_eq_single κ]
    · rw [if_pos h]
      simp only [hg]
    · exact fun κ' _ hκ => if_neg fun h' => hκ (hpp _ _ _ _ (h'.trans h.symm)).2
    · exact fun h => absurd (Finset.mem_univ _) h
    · exact fun t' _ ht => Finset.sum_eq_zero fun κ' _ => if_neg fun h' => ht (hpp _ _ _ _ (h'.trans h.symm)).1
    · exact fun h => absurd (Finset.mem_univ _) h
  · have hg (k : Fin 768) : gathered pp X n k = 0 := by
      unfold gathered
      refine Finset.sum_eq_zero fun t _ => ?_
      rw [if_neg, zero_mul]
      rintro (h' | h')
      · exact h ⟨_, _, h'⟩
      · exact h ⟨_, _, h'⟩
    simp only [hg, zero_mul, Finset.sum_const_zero, silu_zero]
    exact (Finset.sum_eq_zero fun t _ => Finset.sum_eq_zero fun κ _ => if_neg fun h' => h ⟨_, _, h'⟩).symm

/-- A sum over the rows of block `b` of what lies in row `n` is what lies in the block. -/
theorem sum_rows (n b : ℕ) (s : EReal) : ∑ r : Fin 256, (if n = 256 * b + r.val then s else 0) = if n / 256 = b then s else 0 := by
  by_cases h : n / 256 = b
  · rw [if_pos h, Finset.sum_eq_single ⟨n % 256, by omega⟩]
    · exact if_pos (by simp only []; omega)
    · exact fun r _ hr => if_neg fun h' => hr (Fin.ext (by simp only []; omega))
    · exact fun h => absurd (Finset.mem_univ _) h
  · rw [if_neg h]
    exact Finset.sum_eq_zero fun r _ => if_neg (by omega)

include hpp in
/-- The block's column of summed activations against the second weights: the products of the block's pairs. -/
theorem block_sum (X : Fin 2048 → Fin 768 → EReal) (w1 : Fin 3072 → Fin 768 → EReal) (w2 : Fin 3072 → EReal)
    (h2 : ∀ f, w2 f ≠ ⊥ ∧ w2 f ≠ ⊤) (b : ℕ) :
    ∑ f, (∑ r : Fin 256, silu (∑ k, gathered pp X (256 * b + r.val) k * w1 f k)) * w2 f
      = ∑ t, ∑ κ, if pp t κ / 256 = b then ∑ f, silu (∑ k, X t k * w1 f k) * w2 f else 0 := by
  have hr (f : Fin 3072) : ∑ r : Fin 256, silu (∑ k, gathered pp X (256 * b + r.val) k * w1 f k)
      = ∑ t, ∑ κ, if pp t κ / 256 = b then silu (∑ k, X t k * w1 f k) else 0 := by
    simp only [silu_gathered pp hpp]
    rw [Finset.sum_comm]
    refine Finset.sum_congr rfl fun t _ => ?_
    rw [Finset.sum_comm]
    exact Finset.sum_congr rfl fun κ _ => sum_rows _ _ _
  have hb (t : Fin 2048) (κ : Fin 2) (f : Fin 3072) : (if pp t κ / 256 = b then silu (∑ k, X t k * w1 f k) else 0) ≠ ⊥ := by
    split
    · exact silu_ne_bot _
    · simp
  have hm (f : Fin 3072) : (∑ r : Fin 256, silu (∑ k, gathered pp X (256 * b + r.val) k * w1 f k)) * w2 f
      = ∑ t, ∑ κ, if pp t κ / 256 = b then silu (∑ k, X t k * w1 f k) * w2 f else 0 := by
    rw [hr, sum_mul_fin _ _ (fun t => sum_ne_bot _ _ fun κ => hb t κ f) _ (h2 f).1 (h2 f).2]
    refine Finset.sum_congr rfl fun t _ => ?_
    rw [sum_mul_fin _ _ (fun κ => hb t κ f) _ (h2 f).1 (h2 f).2]
    refine Finset.sum_congr rfl fun κ _ => ?_
    rw [ite_mul, zero_mul]
  simp only [hm]
  rw [Finset.sum_comm]
  refine Finset.sum_congr rfl fun t _ => ?_
  rw [Finset.sum_comm]
  refine Finset.sum_congr rfl fun κ _ => ?_
  split
  · rfl
  · exact Finset.sum_const_zero

/-- The kernel's product for one grid point: the accumulator's row and the block's column against the second weights. -/
theorem pay2_eq (i : grid1.Coords) (P0 P1 : Vec Ideal S2048x1 .i32) (X : Vec Ideal S2048x768 .bf16) (W1 : Vec Ideal S1x3072x768 .f32)
    (W2 : Vec Ideal S1x768x3072 .f32) (A : Vec Ideal S1x768 .f32) (hlt : ∀ t κ, pp t κ < 2 ^ 31)
    (h0 : ∀ t, P0 (ix2 t 0) = BitVec.ofNat 32 (pp t 0)) (h1 : ∀ t, P1 (ix2 t 0) = BitVec.ofNat 32 (pp t 1)) (d : Fin 768) :
    k1_pay2 (F := Ideal) i P0 P1 X W1 W2 A (ix2 0 d)
      = A (ix2 0 d) + ∑ f, (∑ r : Fin 256, silu (∑ k, gathered pp (fun t k => X (ix2 t k)) (256 * (i 0).val + r.val) k * W1 (ix3 0 f k))) * W2 (ix3 0 d f) := by
  have hi : (i 0).val < 24 := (i 0).isLt
  have hw (r : Fin 256) : IntOp.addi (BitVec.ofNat 32 r.val) (Scalar.muli (BitVec.ofNat 32 (i 0).val) 256#32) = BitVec.ofNat 32 (256 * (i 0).val + r.val) := by
    rw [show (256#32) = BitVec.ofNat 32 256 from rfl]
    show BitVec.ofNat 32 _ + BitVec.ofNat 32 _ * BitVec.ofNat 32 256 = _
    rw [← BitVec.ofNat_mul, ← BitVec.ofNat_add]
    congr 1
    omega
  have ho (p q : Prop) [Decidable p] [Decidable q] : IntOp.ori (BitVec.ofBool (decide p)) (BitVec.ofBool (decide q)) = BitVec.ofBool (decide (p ∨ q)) := by
    by_cases hp : p <;> by_cases hq : q <;> simp [hp, hq, IntOp.ori]
  have hc (t : Fin 2048) (κ : Fin 2) (r : Fin 256) : IntOp.cmpi .eq (BitVec.ofNat 32 (pp t κ)) (BitVec.ofNat 32 (256 * (i 0).val + r.val))
      = BitVec.ofBool (decide (pp t κ = 256 * (i 0).val + r.val)) := cmpi_eq_word (hlt t κ) (by omega)
  have hs (p : Prop) [Decidable p] : (FloatOps.sitofp .f32 (BitVec.setWidth 32 (BitVec.ofBool (decide p))) : Ideal .f32) = if p then 1 else 0 := sitofp_bit
  pointwise [k1_pay2]
  simp only [h0, h1, hw, hc, ho, hs]
  rfl

end Cert.KernelIdeal.Moe

end
-- ==== Proof.Value.MainBlocks.lean ====
/-
  What the main region's windows hold at each point, and what one step does to the accumulator, at the extended reals.
-/
module

public import proofs.«01_k».proof.Proof.Ideal.MainRegion
public import proofs.«01_k».proof.Proof.Value.Block
public import proofs.«01_k».proof.Proof.Value.Slots
public import Idealize.ShloMosaic.Lib.Pipeline.ValueKit.Geometry

@[expose] public section

noncomputable section

namespace Cert.KernelIdeal.Moe

open Cert.KernelIdeal Cert.KernelIdeal.Gen
open Idealize.ShloMosaic
open Idealize.ShloMosaic.TcCoe Idealize.ShloMosaic.Tactic
open Idealize.ShloMosaic.Pipeline (Dat Cfg Window BodyObligation cellOf)

variable {F : FTy → Type} [FloatOps F] [Named F]
variable (V : (c : Dev nD) → (b : Ref sig .tc) → Buf (Elt F) ((c : Thread nD τ).loc b)) (a : (pcfg1 (F := F)).Adm)

/-- The blocks of the positions and of the tokens are the whole arrays. -/
theorem emb1_0 (t : Fin (cfg1 a).N) (y : S2048x128.Idx) : (((cfg1 a).win 0).blk t).view.emb y = y := by
  funext b
  apply Fin.ext
  refine (ValueKit.view_emb_slice_whole_unit_val ..).trans ?_
  fin_cases b
  · show 0 * 2048 + (y 0).val = (y 0).val
    omega
  · show 0 * 128 + (y 1).val = (y 1).val
    omega
/-- The main region's window on the tokens is the whole array. -/
theorem emb1_1 (t : Fin (cfg1 a).N) (y : S2048x768.Idx) : (((cfg1 a).win 1).blk t).view.emb y = y := by
  funext b
  apply Fin.ext
  refine (ValueKit.view_emb_slice_whole_unit_val ..).trans ?_
  fin_cases b
  · show 0 * 2048 + (y 0).val = (y 0).val
    omega
  · show 0 * 768 + (y 1).val = (y 1).val
    omega

/-- The expert of a grid point. -/
def expAt (t : Fin (cfg1 a).N) : Fin 8 := ⟨(expertOf a (grid1.coords t)).toNat, expert_lt a _⟩

/-- The blocks of the two weights are those of the point's expert. -/
theorem emb1_2 (t : Fin (cfg1 a).N) (f : Fin 3072) (k : Fin 768) : (((cfg1 a).win 2).blk t).view.emb (ix3 (0 : Fin 1) f k) = ix3 (expAt a t) f k := by
  funext b
  apply Fin.ext
  refine (ValueKit.view_emb_slice_whole_unit_val ..).trans ?_
  have h : cc1_transform_2 k1_off1_inb numel1_S1 a.1 (grid1.coords t) = ![(expertOf a (grid1.coords t)).toNat, 0, 0] := transform2_eq a _
  show cc1_transform_2 k1_off1_inb numel1_S1 a.1 (grid1.coords t) b * _ + _ = _
  rw [h]
  fin_cases b
  · show (expertOf a (grid1.coords t)).toNat * 1 + 0 = (expertOf a (grid1.coords t)).toNat
    omega
  · show 0 * 3072 + f.val = f.val
    omega
  · show 0 * 768 + k.val = k.val
    omega
/-- The main region's window on the second weights is the plane of the grid point's expert. -/
theorem emb1_3 (t : Fin (cfg1 a).N) (d : Fin 768) (f : Fin 3072) : (((cfg1 a).win 3).blk t).view.emb (ix3 (0 : Fin 1) d f) = ix3 (expAt a t) d f := by
  funext b
  apply Fin.ext
  refine (ValueKit.view_emb_slice_whole_unit_val ..).trans ?_
  have h : cc1_transform_3 k1_off1_inb numel1_S1 a.1 (grid1.coords t) = ![(expertOf a (grid1.coords t)).toNat, 0, 0] := transform3_eq a _
  show cc1_transform_3 k1_off1_inb numel1_S1 a.1 (grid1.coords t) b * _ + _ = _
  rw [h]
  fin_cases b
  · show (expertOf a (grid1.coords t)).toNat * 1 + 0 = (expertOf a (grid1.coords t)).toNat
    omega
  · show 0 * 768 + d.val = d.val
    omega
  · show 0 * 3072 + f.val = f.val
    omega

/-- The arrays the region reads. -/
abbrev posArr (c : Dev nD) : Vec F S2048x128 .i32 := V c main_call0_v4_1
/-- The tokens, as the main region reads them. -/
abbrev tokArr (c : Dev nD) : Vec F S2048x768 .bf16 := V c main_call0_v4_3
/-- The first weights, as the main region reads them. -/
abbrev upArr (c : Dev nD) : Vec F S8x3072x768 .f32 := V c main_arg2
/-- The second weights, as the main region reads them. -/
abbrev downArr (c : Dev nD) : Vec F S8x768x3072 .f32 := V c main_arg3

/-- Every grid point reads all the positions. -/
theorem posBlk_eq (c : Dev nD) (t : Fin (cfg1 a).N) : posBlk V a c t = posArr V c := funext fun y => congrArg (posArr V c) (emb1_0 a t y)
/-- Every grid point reads all the tokens. -/
theorem tokBlk_eq (c : Dev nD) (t : Fin (cfg1 a).N) : tokBlk V a c t = tokArr V c := funext fun y => congrArg (tokArr V c) (emb1_1 a t y)
/-- A grid point reads the first weights of its expert. -/
theorem upBlk_eq (c : Dev nD) (t : Fin (cfg1 a).N) (f : Fin 3072) (k : Fin 768) : upBlk V a c t (ix3 0 f k) = upArr V c (ix3 (expAt a t) f k) :=
  congrArg (upArr V c) (emb1_2 a t f k)
/-- A grid point reads the second weights of its expert. -/
theorem downBlk_eq (c : Dev nD) (t : Fin (cfg1 a).N) (d : Fin 768) (f : Fin 3072) : downBlk V a c t (ix3 0 d f) = downArr V c (ix3 (expAt a t) d f) :=
  congrArg (downArr V c) (emb1_3 a t d f)

/-- The grid point of index `t`. -/
theorem coords_val : ∀ t : Fin grid1.N, ((grid1.coords t) 0).val = t.val := by decide +kernel

/-- Lanes 0 and 1 of the positions. -/
theorem ld_lane0 (P : Vec F S2048x128 .i32) (t : Fin 2048) :
    View.ld P (Rect.unit (s := S2048x128) ![0, 0] S2048x1.size inb_S2048x128_S2048x1_0_0) (ix2 t 0) = P (ix2 t 0) := by
  refine congrArg P (funext fun b => Fin.ext ?_)
  fin_cases b
  · show 0 + 1 * t.val = t.val
    omega
  · rfl
/-- Loading the second column of the positions reads lane 1. -/
theorem ld_lane1 (P : Vec F S2048x128 .i32) (t : Fin 2048) :
    View.ld P (Rect.unit (s := S2048x128) ![0, 1] S2048x1.size inb_S2048x128_S2048x1_0_1) (ix2 t 0) = P (ix2 t 1) := by
  refine congrArg P (funext fun b => Fin.ext ?_)
  fin_cases b
  · show 0 + 1 * t.val = t.val
    omega
  · rfl
/-- A row of the accumulator. -/
theorem ld_row (A : Vec F S8x768 .f32) (w : BitVec 32) (e : Fin 8) (he : w.toNat = e.val) (h : ∀ b, (k1_off3 w) b + S1x768.size b ≤ S8x768.size b) (d : Fin 768) :
    View.ld A (Rect.unit (s := S8x768) (k1_off3 w) S1x768.size h) (ix2 0 d) = A (ix2 e d) := by
  refine congrArg A (funext fun b => Fin.ext ?_)
  fin_cases b
  · show w.toNat + 1 * 0 = e.val
    omega
  · show 0 + 1 * d.val = d.val
    omega
/-- A row put in the accumulator. -/
theorem put_row (A : Vec F S8x768 .f32) (w : BitVec 32) (e : Fin 8) (he : w.toNat = e.val) (r : Vec F S1x768 .f32) (e' : Fin 8) (d : Fin 768) :
    VecWindow.put A (k1_off3 w) S1x768.size r (ix2 e' d) = if e' = e then r (ix2 0 d) else A (ix2 e' d) := by
  unfold VecWindow.put
  by_cases h : e' = e
  · subst h
    rw [if_pos rfl, dif_pos]
    · refine congrArg r (funext fun b => Fin.ext ?_)
      fin_cases b
      · show e'.val - w.toNat = 0
        omega
      · show d.val - 0 = d.val
        omega
    · intro b
      fin_cases b
      · show w.toNat ≤ e'.val ∧ e'.val < w.toNat + 1
        omega
      · show 0 ≤ d.val ∧ d.val < 0 + 768
        omega
  · rw [if_neg h, dif_neg]
    intro hb
    have h0 : w.toNat ≤ e'.val ∧ e'.val < w.toNat + 1 := hb 0
    exact h (Fin.ext (by omega))

/-- A block is computed exactly when it is below the number of blocks. -/
theorem cond2_iff (i : grid1.Coords) (n : ℕ) (hn : n < 2 ^ 31) : k1_cond2 i (BitVec.ofNat 32 n) = 1#1 ↔ (i 0).val < n := by
  have hi : (i 0).val < 24 := (i 0).isLt
  have h : IntOp.cmpi .slt (BitVec.ofNat 32 (i 0).val) (BitVec.ofNat 32 n) = BitVec.ofBool (decide ((i 0).val < n)) := cmpi_slt_word (by omega) hn
  unfold k1_cond2
  show IntOp.cmpi .ne (BitVec.setWidth 32 (IntOp.cmpi .slt (BitVec.ofNat 32 (i 0).val) (BitVec.ofNat 32 n))) 0#32 = 1#1 ↔ _
  rw [h]
  by_cases hc : (i 0).val < n
  · rw [decide_eq_true hc]; exact ⟨fun _ => hc, fun _ => by decide⟩
  · rw [decide_eq_false hc]; exact ⟨fun h => absurd h (by decide), fun h => absurd h hc⟩

end Cert.KernelIdeal.Moe

end
-- ==== Proof.Value.MainValue.lean ====
/-
  The accumulator of the main region at the extended reals: after the grid points below `n` each expert's row is the sum of the
  products of its pairs in the blocks below `n`.
-/
module

public import proofs.«01_k».proof.Proof.Value.MainBlocks

@[expose] public section

noncomputable section

namespace Cert.KernelIdeal.Moe

open Cert.KernelIdeal Cert.KernelIdeal.Gen
open Idealize.ShloMosaic
open Idealize.ShloMosaic.TcCoe Idealize.ShloMosaic.Tactic
open Idealize.ShloMosaic.Pipeline (Dat Cfg Window BodyObligation cellOf)

variable (V : (c : Dev nD) → (b : Ref sig .tc) → Buf (Elt Ideal) ((c : Thread nD τ).loc b)) (a : (pcfg1 (F := Ideal)).Adm)

/-- The table has a word 24. -/
theorem last_word : 24 < 128 := by decide

/-- A token's expert layer: the activations of its first products against the second weights. -/
def ffn (X : Fin 2048 → Fin 768 → EReal) (W1 : Vec Ideal S8x3072x768 .f32) (W2 : Vec Ideal S8x768x3072 .f32) (t : Fin 2048) (e : Fin 8) (d : Fin 768) : EReal :=
  ∑ f, silu (∑ k, X t k * W1 (ix3 e f k)) * W2 (ix3 e d f)

/-- The expert layer over the arrays the region reads. -/
abbrev ffnAt (c : Dev nD) : Fin 2048 → Fin 8 → Fin 768 → EReal := ffn (fun t k => tokArr V c (ix2 t k)) (upArr V c) (downArr V c)

variable (p q : Fin 2048 → Fin 8) (c : Dev nD)
variable (h0 : ∀ t, posArr V c (ix2 t 0) = BitVec.ofNat 32 (pos p q t 0)) (h1 : ∀ t, posArr V c (ix2 t 1) = BitVec.ofNat 32 (pos p q t 1))
variable (hn : word (tbl a) 24 last_word = BitVec.ofNat 32 (total p q))
variable (he : ∀ (b : Fin (cfg1 a).N) t κ, pos p q t κ / 256 = b.val → expAt a b = ex p q t κ)
variable (hw : ∀ e d f, downArr V c (ix3 e d f) ≠ ⊥ ∧ downArr V c (ix3 e d f) ≠ ⊤)

include h0 h1 hw in
/-- The row one step stores. -/
theorem accRow_eq (b : Fin (cfg1 a).N) (A : Vec Ideal S8x768 .f32) (d : Fin 768) :
    accRow (grid1.coords b) (expertOf a (grid1.coords b)) (row_ok a _) (posBlk V a c b) (tokBlk V a c b) (upBlk V a c b) (downBlk V a c b) A (ix2 0 d)
      = A (ix2 (expAt a b) d) + ∑ t, ∑ κ, if pos p q t κ / 256 = b.val then ffnAt V c t (expAt a b) d else 0 := by
  unfold accRow
  rw [pay2_eq (pos p q) (grid1.coords b) _ _ _ _ _ _ (fun t κ => by have := pos_lt p q t κ; omega)
    (fun t => by rw [ld_lane0, posBlk_eq, h0]) (fun t => by rw [ld_lane1, posBlk_eq, h1])]
  rw [ld_row A (expertOf a (grid1.coords b)) (expAt a b) rfl, coords_val b]
  congr 1
  refine Eq.trans (Finset.sum_congr rfl fun f _ => congrArg₂ (· * ·) (Finset.sum_congr rfl fun r _ => congrArg silu
    (Finset.sum_congr rfl fun k _ => congrArg₂ (· * ·) (congrArg (fun Z : Vec Ideal S2048x768 .bf16 => gathered (pos p q) (fun t k => Z (ix2 t k)) _ k)
      (tokBlk_eq V a c b)) (upBlk_eq V a c b f k))) (downBlk_eq V a c b d f)) ?_
  exact block_sum (pos p q) (fun _ _ _ _ h => pos_inj p q h) (fun t k => tokArr V c (ix2 t k)) (fun f k => upArr V c (ix3 (expAt a b) f k))
    (fun f => downArr V c (ix3 (expAt a b) d f)) (fun f => hw _ _ _) b.val

include h0 h1 hn he hw in
/-- One step adds the pairs of its block to their expert's row. -/
theorem stepAt_eq (b : Fin (cfg1 a).N) (A : Vec Ideal S8x768 .f32) (hA : b.val = 0 → A = k1_pay1 (F := Ideal)) (e : Fin 8) (d : Fin 768) :
    stepAt V a c b A (ix2 e d) = A (ix2 e d) + ∑ t, ∑ κ, if pos p q t κ / 256 = b.val ∧ ex p q t κ = e then ffnAt V c t e d else 0 := by
  have hz : accZero (grid1.coords b) A = A := by
    unfold accZero
    by_cases h : isFirst (grid1.coords b) = 1#1
    · rw [if_pos h, hA ((isFirst_iff b).1 h)]
    · rw [if_neg h]
  unfold stepAt accStep
  rw [hz, hn]
  by_cases hb : b.val < total p q
  · rw [if_pos ((cond2_iff _ _ (by have := total_le p q; omega)).2 (by rw [coords_val b]; exact hb)), put_row A (expertOf a (grid1.coords b)) (expAt a b) rfl]
    by_cases h : e = expAt a b
    · subst h
      rw [if_pos rfl, accRow_eq V a p q c h0 h1 hw]
      congr 1
      refine Finset.sum_congr rfl fun t _ => Finset.sum_congr rfl fun κ _ => if_congr ?_ rfl rfl
      exact ⟨fun h => ⟨h, (he b t κ h).symm⟩, fun h => h.1⟩
    · rw [if_neg h]
      rw [Finset.sum_eq_zero fun t _ => Finset.sum_eq_zero fun κ _ => if_neg fun h' => h ((he b t κ h'.1).trans h'.2).symm, add_zero]
  · rw [if_neg fun h => hb (by rw [← coords_val b]; exact (cond2_iff _ _ (by have := total_le p q; omega)).1 h)]
    have hx (t : Fin 2048) (κ : Fin 2) : ¬ (pos p q t κ / 256 = b.val ∧ ex p q t κ = e) := fun h => hb (h.1 ▸ pos_total p q t κ)
    simp only [hx, if_false, Finset.sum_const_zero, add_zero]

include h0 h1 hn he hw in
/-- The accumulator after the points below `n`. -/
theorem accAt_eq (n : ℕ) (hN : n ≤ 24) (e : Fin 8) (d : Fin 768) :
    accAt V a c n (ix2 e d) = ∑ t, ∑ κ, if pos p q t κ / 256 < n ∧ ex p q t κ = e then ffnAt V c t e d else 0 := by
  induction n with
  | zero =>
    rw [Finset.sum_eq_zero fun t _ => Finset.sum_eq_zero fun κ _ => if_neg fun h' => Nat.not_lt_zero _ h'.1]
    show k1_pay1 (F := Ideal) (ix2 e d) = 0
    pointwise [k1_pay1]
  | succ n ih =>
    have hlt : n < (cfg1 a).N := by show n < grid1.N; rw [N_1]; omega
    have hs := accAt_succ V a c ⟨n, hlt⟩
    rw [show accAt V a c (n + 1) = _ from hs, stepAt_eq V a p q c h0 h1 hn he hw ⟨n, hlt⟩ _ (fun h => by
      have h' : n = 0 := h
      subst h'
      rfl), ih (by omega), ← Finset.sum_add_distrib]
    refine Finset.sum_congr rfl fun t _ => ?_
    rw [← Finset.sum_add_distrib]
    refine Finset.sum_congr rfl fun κ _ => ?_
    by_cases hx : ex p q t κ = e
    · simp only [hx, and_true]
      rcases lt_trichotomy (pos p q t κ / 256) n with h | h | h
      · rw [if_pos h, if_neg (by omega), if_pos (by omega), add_zero]
      · rw [if_neg (by omega), if_pos h, if_pos (by omega), zero_add]
      · rw [if_neg (by omega), if_neg (by omega), if_neg (by omega), add_zero]
    · simp only [hx, and_false, if_false, add_zero]

include h0 h1 hn he hw in
/-- The accumulator after the region: each expert's pairs. -/
theorem accAt_last (e : Fin 8) (d : Fin 768) :
    accAt V a c 24 (ix2 e d) = ∑ t, ((if p t = e then ffnAt V c t e d else 0) + (if q t = e then ffnAt V c t e d else 0)) := by
  rw [accAt_eq V a p q c h0 h1 hn he hw 24 le_rfl]
  refine Finset.sum_congr rfl fun t _ => ?_
  rw [Fin.sum_univ_two]
  have hp (κ : Fin 2) : pos p q t κ / 256 < 24 := by have := pos_lt p q t κ; omega
  simp only [hp, true_and]
  rfl

end Cert.KernelIdeal.Moe

end
-- ==== Proof.Value.Arrays.lean ====
/-
  What the main region and the combining region leave in their arrays, at the extended reals.
-/
module

public import proofs.«01_k».proof.Proof.Ideal.CombineRegion
public import proofs.«01_k».proof.Proof.Value.MainValue
public import proofs.«01_k».proof.Proof.Value.Hot

@[expose] public section

noncomputable section

namespace Cert.KernelIdeal.Moe

open Cert.KernelIdeal Cert.KernelIdeal.Gen
open Idealize.ShloMosaic
open Idealize.ShloMosaic.TcCoe Idealize.ShloMosaic.Tactic
open Idealize.ShloMosaic.Pipeline (Dat Cfg Window BodyObligation cellOf)

section Main

variable {F : FTy → Type} [FloatOps F] [Named F]
variable (V : (c : Dev nD) → (b : Ref sig .tc) → Buf (Elt F) ((c : Thread nD τ).loc b)) (a : (pcfg1 (F := F)).Adm)

/-- The block of the main region's output is the whole array. -/
theorem emb1_4 (t : Fin (cfg1 a).N) (y : S8x768.Idx) : (((cfg1 a).win 4).blk t).view.emb y = y := by
  funext b
  apply Fin.ext
  refine (ValueKit.view_emb_slice_whole_unit_val ..).trans ?_
  fin_cases b
  · show 0 * 8 + (y 0).val = (y 0).val
    omega
  · show 0 * 768 + (y 1).val = (y 1).val
    omega

/-- The last point of the main region writes its output back. -/
theorem flush_4_last (h : 23 < (cfg1 a).N) : ((cfg1 a).win (4 : Fin 5)).flush ⟨23, h⟩ = true := by
  unfold Pipeline.Window.flush
  have h2 : (cfg1 a).N = 23 + 1 := by show grid1.N = _; rw [N_1]
  rw [decide_eq_true h2.symm]
  rfl

/-- The array of the sums after the main region: the accumulator after its last point. -/
theorem arr1_4 (c : Dev nD) : (dat1 V a c).arrAt (4 : Fin 5) (cfg1 a).N = accAt V a c 24 := by
  refine (dat1 V a c).arrAt_eq_of_emb (4 : Fin 5) _ (fun t hf y => ?_) ?_
  · have ht : t.val = 23 := by
      by_contra h
      rw [flush_4 a t h] at hf
      exact absurd hf (by decide)
    exact (congrFun (congrArg (fun n => accAt V a c (n + 1)) ht) y).trans (congrArg (accAt V a c 24) (emb1_4 a t y).symm)
  · intro i
    have h : 23 < (cfg1 a).N := by show 23 < grid1.N; rw [N_1]; decide
    have hm := (((cfg1 a).win 4).blk ⟨23, h⟩).view.emb_mem_set i
    rw [emb1_4 a ⟨23, h⟩ i] at hm
    exact ⟨⟨23, h⟩, flush_4_last a h, hm⟩

end Main

variable (V : (c : Dev nD) → (b : Ref sig .tc) → Buf (Elt Ideal) ((c : Thread nD τ).loc b))

/-- The arrays the combining region reads. -/
abbrev wtsArr (c : Dev nD) : Vec Ideal S2048x128 .f32 := V c main_call0_v4_0
/-- The expert rows, as the combining region reads them. -/
abbrev sumArr (c : Dev nD) : Vec Ideal S8x768 .f32 := V c main_call0_v6

/-- Grid point `t` of the combining region reads tile `t` of the weights. -/
theorem index2_0 : ∀ t : Fin grid2.N, win2_0.index t = ![t.val, 0] := by decide +kernel
/-- Every grid point of the combining region reads the whole array of expert rows. -/
theorem index2_1 : ∀ t : Fin grid2.N, win2_1.index t = ![0, 0] := by decide +kernel
/-- Grid point `t` of the combining region writes tile `t` of the result. -/
theorem index2_2 : ∀ t : Fin grid2.N, win2_2.index t = ![t.val, 0] := by decide +kernel

/-- A grid point's tile of the weights and of the result: its 512 rows. -/
theorem emb2_0 (t : Fin cfg2.N) (r : Fin 512) (l : Fin 128) (h : t.val * 512 + r.val < 2048) :
    ((cfg2.win 0).blk t).view.emb (ix2 r l) = ix2 ⟨t.val * 512 + r.val, h⟩ l := by
  funext b
  apply Fin.ext
  refine (ValueKit.view_emb_slice_whole_unit_val ..).trans ?_
  have h0 : win2_0.index t 0 = t.val := congrFun (index2_0 t) 0
  have h1 : win2_0.index t 1 = 0 := congrFun (index2_0 t) 1
  fin_cases b
  · show win2_0.index t 0 * 512 + r.val = t.val * 512 + r.val
    rw [h0]
  · show win2_0.index t 1 * 128 + l.val = l.val
    rw [h1]
    omega
/-- The combining region's window on the expert rows is the whole array. -/
theorem emb2_1 (t : Fin cfg2.N) (y : S8x768.Idx) : ((cfg2.win 1).blk t).view.emb y = y := by
  funext b
  apply Fin.ext
  refine (ValueKit.view_emb_slice_whole_unit_val ..).trans ?_
  have h0 : win2_1.index t 0 = 0 := congrFun (index2_1 t) 0
  have h1 : win2_1.index t 1 = 0 := congrFun (index2_1 t) 1
  fin_cases b
  · show win2_1.index t 0 * 8 + (y 0).val = (y 0).val
    rw [h0]
    omega
  · show win2_1.index t 1 * 768 + (y 1).val = (y 1).val
    rw [h1]
    omega
/-- Row `r` of the result's tile `t` is row `512 t + r` of the result. -/
theorem emb2_2 (t : Fin cfg2.N) (r : Fin 512) (d : Fin 768) (h : t.val * 512 + r.val < 2048) :
    ((cfg2.win 2).blk t).view.emb (ix2 r d) = ix2 ⟨t.val * 512 + r.val, h⟩ d := by
  funext b
  apply Fin.ext
  refine (ValueKit.view_emb_slice_whole_unit_val ..).trans ?_
  have h0 : win2_2.index t 0 = t.val := congrFun (index2_2 t) 0
  have h1 : win2_2.index t 1 = 0 := congrFun (index2_2 t) 1
  fin_cases b
  · show win2_2.index t 0 * 512 + r.val = t.val * 512 + r.val
    rw [h0]
  · show win2_2.index t 1 * 768 + d.val = d.val
    rw [h1]
    omega

/-- The first eight lanes of a tile of the weights. -/
theorem ld_lanes (P : Vec Ideal S512x128 .f32) (r : Fin 512) (e : Fin 8) :
    View.ld P (Rect.unit (s := S512x128) ![0, 0] S512x8.size inb_S512x128_S512x8_0_0) (ix2 r e) = P (ix2 r (lane e)) := by
  refine congrArg P (funext fun b => Fin.ext ?_)
  fin_cases b
  · show 0 + 1 * r.val = r.val
    omega
  · show 0 + 1 * e.val = e.val
    omega

/-- The experts' rows, weighted. -/
def combined (c : Dev nD) (t : Fin 2048) (d : Fin 768) : EReal := ∑ e : Fin 8, wtsArr V c (ix2 t (lane e)) * sumArr V c (ix2 e d)

/-- A grid point's tile of the result. -/
theorem outTile_eq (c : Dev nD) (t : Fin cfg2.N) (r : Fin 512) (d : Fin 768) (h : t.val * 512 + r.val < 2048) :
    outTile V c t (ix2 r d) = combined V c ⟨t.val * 512 + r.val, h⟩ d := by
  have hc (e : Fin 8) : View.ld (cTile V c t) (Rect.unit (s := S512x128) ![0, 0] S512x8.size inb_S512x128_S512x8_0_0) (ix2 r e)
      = wtsArr V c (ix2 ⟨t.val * 512 + r.val, h⟩ (lane e)) := (ld_lanes _ r e).trans (congrArg (wtsArr V c) (emb2_0 t _ _ h))
  have hm (e : Fin 8) : mTile V c t (ix2 e d) = sumArr V c (ix2 e d) := congrArg (sumArr V c) (emb2_1 t _)
  unfold outTile combined
  generalize View.ld (cTile V c t) _ = P at hc ⊢
  generalize mTile V c t = M at hm ⊢
  pointwise [k2_pay1]
  exact Finset.sum_congr rfl fun e _ => congrArg₂ (· * ·) (hc e) (hm e)

/-- The array of the result after the combining region. -/
theorem arr2_2 (c : Dev nD) : (dat2 V c).arrAt 2 cfg2.N = fun i : S2048x768.Idx => combined V c (i 0) (i 1) := by
  have key : ∀ (t : Fin cfg2.N) (y : S512x768.Idx),
      outTile V c t y = (fun i : S2048x768.Idx => combined V c (i 0) (i 1)) (((cfg2.win 2).blk t).view.emb y) := fun t y => by
    have hr : (y 0).val < 512 := (y 0).isLt
    have ht : t.val < 4 := lt_of_lt_of_eq t.isLt N_2
    have h : t.val * 512 + (y 0).val < 2048 := by omega
    have hy : y = ix2 (⟨(y 0).val, hr⟩ : Fin 512) (y 1) := eq_ix2 y
    refine (congrArg (outTile V c t) hy).trans ((outTile_eq V c t _ _ h).trans ?_)
    refine Eq.trans ?_ (congrArg (fun i : S2048x768.Idx => combined V c (i 0) (i 1)) ((congrArg _ hy).trans (emb2_2 t _ _ h)).symm)
    rfl
  exact (dat2 V c).arrAt_eq_of_covers 2 _ (by decide +kernel) fun t hf y => key t y

end Cert.KernelIdeal.Moe

end
-- ==== Proof.Value.Handover.lean ====
/-
  What each region is entered with at the extended reals, from the kernel's arguments: the main region reads the routing region's positions,
  tokens and table, the combining region its weights and the main region's rows.
-/
module

public import proofs.«01_k».proof.Proof.Value.Host
public import proofs.«01_k».proof.Proof.Value.Positions
public import proofs.«01_k».proof.Proof.Value.Arrays

@[expose] public section

noncomputable section

namespace Cert.KernelIdeal.Moe

open Cert.KernelIdeal Cert.KernelIdeal.Gen
open Idealize.ShloMosaic
open Idealize.ShloMosaic.TcCoe Idealize.ShloMosaic.Tactic

variable (m : (ℓ : Loc nD τ sig) → Buf (Elt Ideal) ℓ) (c : Dev nD)

/-- The regions' and the host's writes leave an argument as launched. -/
theorem U3_arg (r : Ref sig .tc) (h1 : r ∉ hostOps1_W) (h0 : r ∉ hostOps0_W) (n0 : r ≠ main_call0_v4_0) (n1 : r ≠ main_call0_v4_1) (n2 : r ≠ main_call0_v4_2)
    (n3 : r ≠ main_call0_v4_3) : U3 m c r = m ((c.tc : Thread nD τ).loc r) :=
  (U3_of m c r h1).trans ((U2_of m c r (StableHlo.devRef_ne_of_ne n0) (StableHlo.devRef_ne_of_ne n1) (StableHlo.devRef_ne_of_ne n2)
    (StableHlo.devRef_ne_of_ne n3)).trans (V1_of m c r h0))

/-- The main region reads the first weights of the arguments. -/
theorem upArr_eq : upArr (asRefs (U3 m)) c = inUp m c :=
  U3_arg m c main_arg2 (by decide) (by decide) (by decide) (by decide) (by decide) (by decide)
/-- The main region reads the second weights of the arguments. -/
theorem downArr_eq : downArr (asRefs (U3 m)) c = inDown m c :=
  U3_arg m c main_arg3 (by decide) (by decide) (by decide) (by decide) (by decide) (by decide)

/-- The positions the main region reads. -/
theorem posArr_eq : posArr (asRefs (U3 m)) c = posT (toks m c) (gates m c) :=
  (U3_of m c main_call0_v4_1 (by decide)).trans ((U2_1 m c).trans (arr0_3 (asRefs (V1 m)) c))

/-- The tokens it reads: rounding changes no extended real. -/
theorem tokArr_eq (t : Fin 2048) (k : Fin 768) : tokArr (asRefs (U3 m)) c (ix2 t k) = inX m c (ix3 0 t k) := by
  have h : tokArr (asRefs (U3 m)) c = tok (toks m c) := (U3_of m c main_call0_v4_3 (by decide)).trans ((U2_3 m c).trans (arr0_5 (asRefs (V1 m)) c))
  have hk : tok (F := Ideal) (toks m c) (ix2 t k) = toks m c (ix2 t k) := by
    generalize toks m c = X
    pointwise [tok, k0_pay3, k0_pay2]
  rw [h, hk, toks_eq]

/-- A word of the prefetched table. -/
theorem table_word (k : ℕ) (hk : k < 128) : word (tbl (adm1 m)) k hk = beT (toks m 0) (gates m 0) (ix2 0 ⟨k, hk⟩) := by
  have h : tbl (adm1 m) = (shapeCast S128 (beT (toks m 0) (gates m 0)) shapeCasts_S1x128_S128 : Vec Ideal S128 .i32) := U3_table m 0
  rw [h]
  unfold word
  refine shapeCast_apply _ _ _ (ix2 (0 : Fin 1) (⟨k, hk⟩ : Fin 128)) ?_
  rw [Shape.rowMajor_val_two, Shape.rowMajor_val_one]
  show 0 * 128 + k = k
  omega

section Routed

variable (hL : ∀ t e, ⊥ < logit (toks m 0) (gates m 0) t e)
include hL

/-- The table's word 24 is the number of blocks in use. -/
theorem table_total : word (tbl (adm1 m)) 24 last_word = BitVec.ofNat 32 (total (eA (toks m 0) (gates m 0)) (eB (toks m 0) (gates m 0))) :=
  (table_word m 24 last_word).trans (beT_total _ _ hL)

/-- The table's word for a block holding a pair is that pair's expert. -/
theorem table_expert (b : Fin (cfg1 (adm1 m)).N) (t : Fin 2048) (k : Fin 2) (hb : pos (eA (toks m 0) (gates m 0)) (eB (toks m 0) (gates m 0)) t k / 256 = b.val) :
    expAt (adm1 m) b = ex (eA (toks m 0) (gates m 0)) (eB (toks m 0) (gates m 0)) t k := by
  have hc : ((grid1.coords b) 0).val = b.val := coords_val b
  have hlt : b.val < 24 := lt_of_lt_of_eq b.isLt N_1
  have hk : ((grid1.coords b) 0).val < 128 := by omega
  apply Fin.ext
  refine (congrArg BitVec.toNat ((table_word m _ hk).trans ((beT_of_ne _ _ _ ?_).trans (blkE_eq _ _ hL ⟨_, hk⟩ t k (hb.trans hc.symm))))).trans ?_
  · show ((grid1.coords b) 0).val ≠ 24
    omega
  · rw [BitVec.toNat_ofNat, Nat.mod_eq_of_lt (by omega)]

/-- The rows the combining region reads: each expert's sum over the tokens that chose it. -/
theorem sumArr_eq (hw : ∀ e d f, inDown m 0 (ix3 e d f) ≠ ⊥ ∧ inDown m 0 (ix3 e d f) ≠ ⊤) (e : Fin 8) (d : Fin 768) : sumArr (asRefs (U4 m)) 0 (ix2 e d)
    = ∑ t, ((if eA (toks m 0) (gates m 0) t = e then ffn (fun t k => inX m 0 (ix3 0 t k)) (inUp m 0) (inDown m 0) t e d else 0)
      + (if eB (toks m 0) (gates m 0) t = e then ffn (fun t k => inX m 0 (ix3 0 t k)) (inUp m 0) (inDown m 0) t e d else 0)) := by
  have hs : sumArr (asRefs (U4 m)) 0 = accAt (asRefs (U3 m)) (adm1 m) 0 24 := (U4_6 m 0).trans (arr1_4 (asRefs (U3 m)) (adm1 m) 0)
  have hf : ffnAt (asRefs (U3 m)) 0 = ffn (fun t k => inX m 0 (ix3 0 t k)) (inUp m 0) (inDown m 0) := by
    unfold ffnAt
    rw [upArr_eq, downArr_eq]
    exact congrArg (fun Y => ffn Y (inUp m 0) (inDown m 0)) (funext fun t => funext fun k => tokArr_eq m 0 t k)
  rw [hs, accAt_last (asRefs (U3 m)) (adm1 m) (eA (toks m 0) (gates m 0)) (eB (toks m 0) (gates m 0)) 0
    (fun t => by rw [posArr_eq]; exact posT_0 _ _ hL t) (fun t => by rw [posArr_eq]; exact posT_1 _ _ hL t) (table_total m hL) (table_expert m hL)
    (by rw [downArr_eq]; exact hw), hf]

end Routed

/-- The weights the combining region reads. -/
theorem wtsArr_eq : wtsArr (asRefs (U4 m)) c = wts (toks m c) (gates m c) :=
  (U4_of m c main_call0_v4_0 (StableHlo.devRef_ne_of_ne (by decide))).trans ((U3_of m c main_call0_v4_0 (by decide)).trans
    ((U2_0 m c).trans (arr0_2 (asRefs (V1 m)) c)))

/-- The program's result: the combining region's, under a unit axis. -/
theorem out_eq (t : Fin 2048) (d : Fin 768) : (V6 m (outs m) c main_v0 : Vec Ideal S1x2048x768 .f32) (ix3 0 t d) = combined (asRefs (U4 m)) c t d := by
  have h : (V6 m (outs m) c main_v0 : Vec Ideal S1x2048x768 .f32)
      = (shapeCast S1x2048x768 (U5 m c main_call0_v7) shapeCasts_S2048x768_S1x2048x768 : Vec Ideal S1x2048x768 .f32) := by
    rw [← V5_eq]
    unfold V6
    rw [StableHlo.after_cons, StableHlo.after_nil, StableHlo.TRef.reshape, StableHlo.reshape_result]
    rfl
  rw [h, U5_7, arr2_2]
  refine shapeCast_apply _ _ _ (ix2 t d) ?_
  rw [Shape.rowMajor_val_three, Shape.rowMajor_val_two]
  show t.val * 768 + d.val = (0 * 2048 + t.val) * 768 + d.val
  omega

end Cert.KernelIdeal.Moe

end
-- ==== Proof.Value.Weights.lean ====
/-
  The combining weights at the extended reals: on a token's two experts its two shares over the experts' counts, elsewhere zero; and what
  the weighted sum over the experts is.
-/
module

public import proofs.«01_k».proof.Proof.Value.Counts

@[expose] public section

noncomputable section

namespace Cert.KernelIdeal.Moe

open Cert.KernelIdeal Cert.KernelIdeal.Gen
open Idealize.ShloMosaic

variable (X : Vec Ideal S2048x768 .f32) (G : Vec Ideal S128x768 .f32)

/-- The tokens that chose an expert. -/
def chosen (e : Fin 8) : ℕ := cnt (eA X G) e + cnt (eB X G) e

/-- The share of a token's first expert. -/
def shareK (t : Fin 2048) : EReal := Ideal.logistic (logit X G t (eA X G t) - logit X G t (eB X G t))

variable (hL : ∀ t e, ⊥ < logit X G t e)
include hL

/-- A token's weight for an expert. -/
theorem wts_eq (t : Fin 2048) (e : Fin 8) : wts (F := Ideal) X G (ix2 t (lane e))
    = (shareK X G t * (if e = eA X G t then 1 else 0) + (1 - shareK X G t) * (if e = eB X G t then 1 else 0)) * Ideal.div 1 (max (chosen X G e : EReal) 1) := by
  have h2 : k0_pay14 (F := Ideal) (sel2 X G) = hot2 X G := rfl
  have hc : k0_pay16 (F := Ideal) (hot1 X G) (sel2 X G) = cntB X G := rfl
  have hA : (if (lane e).val = (eA X G t).val then (1 : EReal) else 0) = if e = eA X G t then 1 else 0 := if_congr (Fin.ext_iff (a := e)).symm rfl rfl
  have hB : (if (lane e).val = (eB X G t).val then (1 : EReal) else 0) = if e = eB X G t then 1 else 0 := if_congr (Fin.ext_iff (a := e)).symm rfl rfl
  pointwise [wts, k0_pay17, k0_pay10, k0_pay11]
  rw [h2, hc, top1_eq X G hL, top2_eq X G hL, hot1_eq X G hL, hot2_eq X G hL, cntB_eq X G hL, laneCnt_lane, laneCnt_lane, hA, hB]
  rfl

/-- The experts' rows under the weights: the two shares of the two means. -/
theorem sum_wts (t : Fin 2048) (M : Fin 8 → EReal) : ∑ e : Fin 8, wts (F := Ideal) X G (ix2 t (lane e)) * M e
    = shareK X G t * Ideal.div (M (eA X G t)) (max (chosen X G (eA X G t) : EReal) 1)
      + (1 - shareK X G t) * Ideal.div (M (eB X G t)) (max (chosen X G (eB X G t) : EReal) 1) := by
  have hne : eA X G t ≠ eB X G t := (second_ne (logit X G t)).symm
  have hd (e : Fin 8) (x : EReal) : Ideal.div x (max (chosen X G e : EReal) 1) = Ideal.div 1 (max (chosen X G e : EReal) 1) * x := by
    have h0 : max (chosen X G e : EReal) 1 ≠ 0 := (lt_of_lt_of_le zero_lt_one (le_max_right _ _)).ne'
    unfold Ideal.div
    rw [if_neg h0, if_neg h0, one_mul, mul_comm]
  simp only [wts_eq X G hL]
  rw [Finset.sum_eq_add (eA X G t) (eB X G t) hne]
  · rw [if_pos rfl, if_neg hne, if_pos rfl, if_neg hne.symm, mul_one, mul_zero, add_zero, mul_zero, zero_add, mul_one, mul_assoc, mul_assoc, ← hd, ← hd]
  · intro e _ he
    rw [if_neg he.1, if_neg he.2, mul_zero, mul_zero, add_zero, zero_mul, zero_mul]
  · exact fun h => absurd (Finset.mem_univ _) h
  · exact fun h => absurd (Finset.mem_univ _) h

end Cert.KernelIdeal.Moe

end
-- ==== Proof.Value.RefWeights.lean ====
/-
  The reference's weights of a token's two experts: the softmax of the two logits.
-/
module

public import proofs.«01_k».proof.Proof.Value.RefChoice

@[expose] public section

noncomputable section

namespace Cert.ReferenceIdeal.Moe

open Cert.ReferenceIdeal Cert.ReferenceIdeal.Gen Cert.ReferenceIdeal.Read
open Cert.KernelIdeal.Moe (first second second_le)
open Idealize.ShloMosaic

variable (x0 : (⟨S1x2048x768, .f32⟩ : BufTy).Contents (Elt Ideal)) (x1 : (⟨S8x768, .f32⟩ : BufTy).Contents (Elt Ideal))

/-- The float of minus infinity, and that of zero. -/
theorem ninf_bot : Ideal.ofBits .f32 0xFF800000#32 = ⊥ := by
  rw [Ideal.ofBits]
  simp [Ideal.ieee]

/-- The word of the float zero reads as 0. -/
theorem zero_word : Ideal.ofBits .f32 0#32 = 0 := by
  rw [Ideal.ofBits]
  simp [Ideal.ieee]

/-- The greater of the two logits is the first expert's. -/
theorem v3_eq (t : Fin 2048) : val_main_v3 (F := Ideal) x0 x1 (ix1 t) = gate x0 x1 t (first (gate x0 x1 t)) := by
  unfold val_main_v3
  pointwise []
  refine le_antisymm ((Finset.fold_max_le _).2 ⟨?_, fun k _ => ?_⟩) ((Finset.le_fold_max _).2 (.inr ⟨0, Finset.mem_univ _, ?_⟩))
  · rw [val_main_cst_apply]
    show Ideal.ofBits .f32 0xFF800000#32 ≤ _
    rw [ninf_bot]; exact bot_le
  · rw [values_eq]
    match k with
    | ⟨0, _⟩ => exact le_rfl
    | ⟨1, _⟩ => exact second_le _
  · rw [values_eq]; exact le_rfl

/-- The softmax of two reals, the first no smaller: the logistic of the difference, and its complement. -/
theorem softmax_two (a b : ℝ) :
    Ideal.div (Ideal.exp ((a : EReal) - a)) (Ideal.exp ((a : EReal) - a) + Ideal.exp ((b : EReal) - a)) = Ideal.logistic ((a : EReal) - b)
    ∧ Ideal.div (Ideal.exp ((b : EReal) - a)) (Ideal.exp ((a : EReal) - a) + Ideal.exp ((b : EReal) - a)) = 1 - Ideal.logistic ((a : EReal) - b) := by
  rw [← EReal.coe_sub, ← EReal.coe_sub, ← EReal.coe_sub, Ideal.exp_coe, Ideal.exp_coe, Ideal.logistic_coe, ← EReal.coe_add, sub_self, Real.exp_zero]
  have h : (1 + Real.exp (b - a)) ≠ 0 := by positivity
  rw [Ideal.div_coe h, Ideal.div_coe h, ← EReal.coe_mul, ← EReal.coe_mul, ← EReal.coe_one, ← EReal.coe_sub, EReal.coe_eq_coe_iff,
    EReal.coe_eq_coe_iff, show -(a - b) = b - a by ring]
  constructor
  · field_simp
  · field_simp
    ring

/-- The weights of a token's first and second expert, where the logits are real. -/
theorem v13_eq (hr : ∀ t e, ∃ r : ℝ, gate x0 x1 t e = r) (t : Fin 2048) :
    val_main_v13 (F := Ideal) x0 x1 (ix2 t 0) = Ideal.logistic (gate x0 x1 t (first (gate x0 x1 t)) - gate x0 x1 t (second (gate x0 x1 t)))
    ∧ val_main_v13 (F := Ideal) x0 x1 (ix2 t 1) = 1 - Ideal.logistic (gate x0 x1 t (first (gate x0 x1 t)) - gate x0 x1 t (second (gate x0 x1 t))) := by
  obtain ⟨a, ha⟩ := hr t (first (gate x0 x1 t))
  obtain ⟨b, hb⟩ := hr t (second (gate x0 x1 t))
  have h5 : val_main_v5 (F := Ideal) x0 x1 (ix1 t) = (a : EReal) := by
    rw [val_main_v5_apply, val_main_v4_apply, val_main_cst_0_apply, v3_eq, ha]
    show max (Ideal.ofBits .f32 0xFF800000#32) _ = _
    rw [ninf_bot, max_eq_right bot_le]
  have h9 : ∀ k : Fin 2, val_main_v9 (F := Ideal) x0 x1 (ix2 t k) = Ideal.exp (gate x0 x1 t (pick x0 x1 t k) - (a : EReal)) := fun k => by
    rw [val_main_v9_apply, val_main_v8_apply, values_eq, val_main_v7_apply, val_main_v6_apply,
      show idx_main_v6 (idx_main_v7 (ix2 t k)) = ix1 t from funext fun i => by match i with | ⟨0, _⟩ => rfl, h5]
    rfl
  have h10 : val_main_v10 (F := Ideal) x0 x1 (ix1 t) = Ideal.exp ((a : EReal) - a) + Ideal.exp ((b : EReal) - a) := by
    rw [val_main_v10_apply, val_main_cst_1_apply, Fin.sum_univ_two,
      show idx_main_v10 (ix1 t) 0 = ix2 t 0 from eq_ix2 _, show idx_main_v10 (ix1 t) 1 = ix2 t 1 from eq_ix2 _, h9, h9]
    show Ideal.ofBits .f32 0#32 + (Ideal.exp (gate x0 x1 t (first (gate x0 x1 t)) - a) + Ideal.exp (gate x0 x1 t (second (gate x0 x1 t)) - a)) = _
    rw [ha, hb, zero_word, zero_add]
  have h13 : ∀ k : Fin 2, val_main_v13 (F := Ideal) x0 x1 (ix2 t k) = Ideal.div (Ideal.exp (gate x0 x1 t (pick x0 x1 t k) - (a : EReal)))
      (Ideal.exp ((a : EReal) - a) + Ideal.exp ((b : EReal) - a)) := fun k => by
    rw [val_main_v13_apply, h9, val_main_v12_apply, val_main_v11_apply,
      show idx_main_v11 (idx_main_v12 (ix2 t k)) = ix1 t from funext fun i => by match i with | ⟨0, _⟩ => rfl, h10]
    rfl
  have hs := softmax_two a b
  rw [ha, hb]
  refine ⟨(h13 0).trans ?_, (h13 1).trans ?_⟩
  · show Ideal.div (Ideal.exp (gate x0 x1 t (first (gate x0 x1 t)) - _)) _ = _
    rw [ha]; exact hs.1
  · show Ideal.div (Ideal.exp (gate x0 x1 t (second (gate x0 x1 t)) - _)) _ = _
    rw [hb]; exact hs.2

end Cert.ReferenceIdeal.Moe

end
-- ==== Proof.Value.RefMeans.lean ====
/-
  The reference's expert means: the mask of the tokens routed to an expert, their number, the sum of their outputs, and the mean.
-/
module

public import proofs.«01_k».proof.Proof.Value.RefWeights
public import proofs.«01_k».proof.Proof.Value.Slots
public import proofs.«01_k».proof.Proof.Value.MainValue

@[expose] public section

noncomputable section

namespace Cert.ReferenceIdeal.Moe

open Cert.ReferenceIdeal Cert.ReferenceIdeal.Gen Cert.ReferenceIdeal.Read
open Cert.KernelIdeal.Moe (first second second_ne cnt ffn silu cmpi_eq_word)
open Idealize.ShloMosaic

variable (x0 : (⟨S1x2048x768, .f32⟩ : BufTy).Contents (Elt Ideal)) (x1 : (⟨S8x768, .f32⟩ : BufTy).Contents (Elt Ideal))
  (x2 : (⟨S8x3072x768, .f32⟩ : BufTy).Contents (Elt Ideal)) (x3 : (⟨S8x768x3072, .f32⟩ : BufTy).Contents (Elt Ideal))

/-- The word of the float one reads as 1. -/
theorem one_word : Ideal.ofBits .f32 0x3F800000#32 = 1 := by
  rw [Ideal.ofBits]
  simp [Ideal.ieee]
  rw [← EReal.coe_mul]; norm_num

/-- The two experts of a token differ. -/
theorem pick_ne (t : Fin 2048) : pick x0 x1 t 0 ≠ pick x0 x1 t 1 := (second_ne (gate x0 x1 t)).symm

/-- The bit of a comparison as a float. -/
theorem uitofp_bit (p : Prop) [Decidable p] : (FloatOps.uitofp .f32 (BitVec.ofBool (decide p)) : Ideal .f32) = if p then (1 : EReal) else 0 := by
  by_cases h : p
  · rw [decide_eq_true h, if_pos h]
    show (((1#1).toNat : ℝ) : EReal) = 1
    norm_num
  · rw [decide_eq_false h, if_neg h]
    show (((0#1).toNat : ℝ) : EReal) = 0
    norm_num

/-- The mask: one where the expert is either of the token's two. -/
theorem v16_eq (t : Fin 2048) (e : Fin 8) : val_main_v16 (F := Ideal) x0 x1 (ix2 t e)
    = if pick x0 x1 t 0 = e ∨ pick x0 x1 t 1 = e then 1 else 0 := by
  have h14 : ∀ k : Fin 2, val_main_v14 (F := Ideal) x0 x1 (ix3 t k e) = if pick x0 x1 t k = e then 1 else 0 := fun k => by
    rw [val_main_v14_apply, val_main_call0_v4_apply, val_main_call0_v2_apply, val_main_call0_v0_apply,
      show idx_main_call0_v0 (idx_main_call0_v2 (ix3 t k e)) = ix2 t k from eq_ix2 _, indices_eq, val_main_call0_v3_apply, val_main_call0_v1_apply,
      show (idx_main_call0_v3 (ix3 t k e) 2).val = e.val from rfl, cmpi_eq_word (by omega) (by omega), uitofp_bit]
    simp only [Fin.ext_iff]
  have h15 : val_main_v15 (F := Ideal) x0 x1 (ix2 t e) = (if pick x0 x1 t 0 = e then (1 : EReal) else 0) + if pick x0 x1 t 1 = e then 1 else 0 := by
    rw [val_main_v15_apply, val_main_cst_2_apply, Fin.sum_univ_two,
      show idx_main_v15 (ix2 t e) 0 = ix3 t 0 e from eq_ix3 _, show idx_main_v15 (ix2 t e) 1 = ix3 t 1 e from eq_ix3 _, h14, h14]
    show Ideal.ofBits .f32 0#32 + _ = _
    rw [zero_word, zero_add]
  rw [val_main_v16_apply, val_main_call1_v2_apply, h15, val_main_call1_v4_apply, val_main_call1_v3_apply, val_main_cst_4_apply,
    val_main_call1_v1_apply, val_main_call1_v0_apply, val_main_cst_3_apply]
  show min (Ideal.ofBits .f32 0x3F800000#32) (max (Ideal.ofBits .f32 0#32) _) = _
  rw [zero_word, one_word]
  by_cases h0 : pick x0 x1 t 0 = e
  · have h1 : pick x0 x1 t 1 ≠ e := fun h => pick_ne x0 x1 t (h0.trans h.symm)
    simp [h0, h1]
  · by_cases h1 : pick x0 x1 t 1 = e <;> simp [h0, h1]

/-- The mask times an output: the output of either choice. -/
theorem mask_mul (t : Fin 2048) (e : Fin 8) (y : EReal) : val_main_v16 (F := Ideal) x0 x1 (ix2 t e) * y
    = (if pick x0 x1 t 0 = e then y else 0) + if pick x0 x1 t 1 = e then y else 0 := by
  rw [v16_eq]
  by_cases h0 : pick x0 x1 t 0 = e
  · have h1 : pick x0 x1 t 1 ≠ e := fun h => pick_ne x0 x1 t (h0.trans h.symm)
    simp [h0, h1]
  · by_cases h1 : pick x0 x1 t 1 = e <;> simp [h0, h1]

/-- How many tokens have the expert for one of their two. -/
def routed (e : Fin 8) : ℕ := cnt (fun t => pick x0 x1 t 0) e + cnt (fun t => pick x0 x1 t 1) e

/-- The reference's counts. -/
theorem v22_eq (e : Fin 8) : val_main_v22 (F := Ideal) x0 x1 (ix1 e) = (routed x0 x1 e : EReal) := by
  rw [val_main_v22_apply, val_main_cst_5_apply]
  have h : ∀ t : Fin 2048, val_main_v16 (F := Ideal) x0 x1 (idx_main_v22 (ix1 e) t)
      = (if pick x0 x1 t 0 = e then (1 : EReal) else 0) + if pick x0 x1 t 1 = e then 1 else 0 := fun t => by
    rw [show idx_main_v22 (ix1 e) t = ix2 t e from eq_ix2 _, ← mul_one (val_main_v16 (F := Ideal) x0 x1 (ix2 t e)), mask_mul]
  simp only [h, Finset.sum_add_distrib, Finset.sum_boole]
  show Ideal.ofBits .f32 0#32 + _ = _
  rw [zero_word, zero_add, routed, Nat.cast_add]
  rfl

/-- The activation as the reference writes it. -/
theorem silu_ref (z : EReal) : z * Ideal.div 1 (1 + Ideal.exp (-z)) = silu z := rfl

/-- The output of an expert for a token. -/
theorem v21_eq (e : Fin 8) (t : Fin 2048) (d : Fin 768) :
    val_main_v21 (F := Ideal) x0 x2 x3 (ix3 e t d) = ffn (fun t k => x0 (ix3 0 t k)) x2 x3 t e d := by
  rw [val_main_v21_apply]
  refine Finset.sum_congr rfl fun f _ => congrArg₂ (· * ·) ?_ ?_
  · have h18 : val_main_v18 (F := Ideal) x0 x2 (ix3 t e f) = ∑ k : Fin 768, x0 (ix3 0 t k) * x2 (ix3 e f k) := by
      rw [val_main_v18_apply]
      refine Finset.sum_congr rfl fun k _ => congrArg₂ (· * ·) ?_ ?_
      · rw [show lidx_main_v18 (ix3 t e f) k = ix2 t k from eq_ix2 _, v0_eq]
      · rw [val_main_v17_apply]
        exact congrArg x2 (eq_ix3 _)
    rw [show lidx_main_v21 (ix3 e t d) f = ix3 t e f from eq_ix3 _, val_main_v19_apply, val_main_call2_v5_apply, val_main_call2_v4_apply,
      val_main_call2_cst_0_apply, val_main_call2_v3_apply, val_main_call2_v2_apply, val_main_call2_cst_apply, val_main_call2_v1_apply,
      val_main_call2_v0_apply, h18]
    show _ * Ideal.div (Ideal.ofBits .f32 0x3F800000#32) (Ideal.ofBits .f32 0x3F800000#32 + Ideal.exp (-_)) = _
    rw [one_word]
    exact silu_ref _
  · rw [val_main_v20_apply]
    exact congrArg x3 (eq_ix3 _)

/-- The sum of the outputs of the tokens routed to an expert. -/
def total (e : Fin 8) (d : Fin 768) : EReal :=
  ∑ t : Fin 2048, ((if pick x0 x1 t 0 = e then ffn (fun t k => x0 (ix3 0 t k)) x2 x3 t e d else 0)
    + if pick x0 x1 t 1 = e then ffn (fun t k => x0 (ix3 0 t k)) x2 x3 t e d else 0)

/-- The reference's masked sum over the tokens is the expert's total. -/
theorem v23_eq (e : Fin 8) (d : Fin 768) : val_main_v23 (F := Ideal) x0 x1 x2 x3 (ix2 e d) = total x0 x1 x2 x3 e d := by
  rw [val_main_v23_apply]
  refine Finset.sum_congr rfl fun t _ => ?_
  rw [show lidx_main_v23 (ix2 e d) t = ix2 t e from eq_ix2 _, show ridx_main_v23 (ix2 e d) t = ix3 e t d from eq_ix3 _, v21_eq]
  exact mask_mul x0 x1 t e _

/-- The mean of an expert to which some token is routed. -/
theorem v32_eq (e : Fin 8) (d : Fin 768) (h : 0 < routed x0 x1 e) : val_main_v32 (F := Ideal) x0 x1 x2 x3 (ix2 e d)
    = Ideal.div (total x0 x1 x2 x3 e d) (max (routed x0 x1 e : EReal) 1) := by
  have hc : val_main_call3_v1 (F := Ideal) x0 x1 (ix2 e d) = 1#1 := by
    rw [val_main_call3_v1_apply, val_main_v26_apply, val_main_v24_apply, val_main_v25_apply, val_main_cst_6_apply,
      show idx_main_v24 (idx_main_call3_v1 (ix2 e d)) = ix1 e from funext fun i => by match i with | ⟨0, _⟩ => rfl, v22_eq]
    show BitVec.ofBool (decide (Ideal.ofBits .f32 0#32 < (routed x0 x1 e : EReal))) = 1#1
    rw [zero_word, decide_eq_true (by exact_mod_cast h)]; rfl
  rw [val_main_v32_apply, hc, val_main_v31_apply, v23_eq, val_main_v30_apply, val_main_v29_apply, val_main_v28_apply,
    show idx_main_v29 (idx_main_v30 (ix2 e d)) = ix1 e from funext fun i => by match i with | ⟨0, _⟩ => rfl, v22_eq,
    val_main_v27_apply, val_main_cst_7_apply]
  show Ideal.div _ (max _ (Ideal.ofBits .f32 0x3F800000#32)) = _
  rw [one_word]

end Cert.ReferenceIdeal.Moe

end
-- ==== Proof.Value.RefOut.lean ====
/-
  The reference's result: for each token, its two weights times the means of its two experts.
-/
module

public import proofs.«01_k».proof.Proof.Value.RefMeans

@[expose] public section

noncomputable section

namespace Cert.ReferenceIdeal.Moe

open Cert.ReferenceIdeal Cert.ReferenceIdeal.Gen Cert.ReferenceIdeal.Read
open Cert.KernelIdeal.Moe (first second cnt cmpi_slt_word)
open Idealize.ShloMosaic

variable (x0 : (⟨S1x2048x768, .f32⟩ : BufTy).Contents (Elt Ideal)) (x1 : (⟨S8x768, .f32⟩ : BufTy).Contents (Elt Ideal))
  (x2 : (⟨S8x3072x768, .f32⟩ : BufTy).Contents (Elt Ideal)) (x3 : (⟨S8x768x3072, .f32⟩ : BufTy).Contents (Elt Ideal))

/-- The row indices of the gather: an expert's word is not negative, and stays. -/
theorem v38_eq (t : Fin 2048) (k : Fin 2) : val_main_v38 (F := Ideal) x0 x1 (ix3 t k 0) = BitVec.ofNat 32 (pick x0 x1 t k).val := by
  have h : IntOp.cmpi .slt (BitVec.ofNat 32 (pick x0 x1 t k).val) 0#32 = 0#1 := by
    rw [show (0#32) = BitVec.ofNat 32 0 from rfl, cmpi_slt_word (by omega) (by omega), decide_eq_false (by omega)]; rfl
  rw [val_main_v38_apply, show idx_main_v38 (ix3 t k 0) = ix2 t k from eq_ix2 _, val_main_v37_apply, val_main_v34_apply, indices_eq,
    val_main_v33_apply, val_main_c_apply, h]
  rfl

/-- The record of the gather of rows. -/
abbrev rows : GatherDims S8x768 S2048x2x1 S2048x2x768 := gather_S8x768_S2048x2x1_S2048x2x768_2_0_n_n_0_2_1768

/-- The gather of rows reads, at a token's choice `k`, the row whose number its index holds. -/
theorem rows_apply (x : S8x768.Idx → EReal) (idx : IVec S2048x2x1 32) (t : Fin 2048) (k : Fin 2) (d : Fin 768) (e : Fin 8)
    (h : idx (ix3 t k 0) = BitVec.ofNat 32 e.val) : Host.gather rows x idx (ix3 t k d) = x (ix2 e d) := by
  unfold Host.gather
  refine congrArg x (funext fun a => Fin.ext ?_)
  match a with
  | ⟨0, _⟩ =>
    show rows.start (ix3 t k d) idx 0 + rows.batchCoord (ix3 t k d) 0 + rows.offCoord (ix3 t k d) 0 = e.val
    rw [rows.batchCoord_eq_zero _ _ (show (0 : Fin 2) ∉ rows.operandBatchingDims from List.not_mem_nil),
      rows.offCoord_eq_zero _ _ (fun hk => ((rows.mem_sKept 0).1 hk).1 (List.mem_singleton.2 rfl)), Nat.add_zero]
    unfold GatherDims.start
    rw [dif_pos (show (0 : Fin 2) ∈ rows.startIndexMap from List.mem_singleton.2 rfl)]
    have hs : rows.siIdx (ix3 t k d) ⟨rows.startIndexMap.idxOf 0, List.idxOf_lt_length_iff.2 (List.mem_singleton.2 rfl)⟩ = ix3 t k 0 := by
      funext b
      match b with
      | ⟨0, _⟩ => rfl
      | ⟨1, _⟩ => rfl
      | ⟨2, _⟩ => rfl
    rw [hs, h, StableHlo.Predicate.toInt_ofNat_small _ (by omega)]
    show min ((e.val : ℤ)).toNat 7 = e.val
    omega
  | ⟨1, _⟩ =>
    show rows.start (ix3 t k d) idx 1 + rows.batchCoord (ix3 t k d) 1 + rows.offCoord (ix3 t k d) 1 = d.val
    rw [rows.batchCoord_eq_zero _ _ (show (1 : Fin 2) ∉ rows.operandBatchingDims from List.not_mem_nil)]
    have h0 : rows.start (ix3 t k d) idx 1 = 0 := by
      unfold GatherDims.start
      rw [dif_neg (show (1 : Fin 2) ∉ rows.startIndexMap from by decide)]
    have h1 : rows.offCoord (ix3 t k d) 1 = d.val := rfl
    rw [h0, h1]
    omega

/-- Some token is routed to a chosen expert. -/
theorem routed_pos (t : Fin 2048) (k : Fin 2) : 0 < routed x0 x1 (pick x0 x1 t k) := by
  have h : ∀ (p : Fin 2048 → Fin 8), 0 < cnt p (p t) := fun p => Finset.card_pos.2 ⟨t, Finset.mem_filter.2 ⟨Finset.mem_univ _, rfl⟩⟩
  match k with
  | ⟨0, _⟩ => exact Nat.add_pos_left (h fun t => pick x0 x1 t 0) _
  | ⟨1, _⟩ => exact Nat.add_pos_right _ (h fun t => pick x0 x1 t 1)

/-- The mean the result takes for an expert. -/
def mean (e : Fin 8) (d : Fin 768) : EReal := Ideal.div (total x0 x1 x2 x3 e d) (max (routed x0 x1 e : EReal) 1)

/-- The weight of a token's first expert. -/
def share (t : Fin 2048) : EReal := Ideal.logistic (gate x0 x1 t (pick x0 x1 t 0) - gate x0 x1 t (pick x0 x1 t 1))

/-- The reference's result, where the logits are real. -/
theorem v41_eq (hr : ∀ t e, ∃ r : ℝ, gate x0 x1 t e = r) (t : Fin 2048) (d : Fin 768) : val_main_v41 (F := Ideal) x0 x1 x2 x3 (ix3 0 t d)
    = share x0 x1 t * mean x0 x1 x2 x3 (pick x0 x1 t 0) d + (1 - share x0 x1 t) * mean x0 x1 x2 x3 (pick x0 x1 t 1) d := by
  have h39 : ∀ k : Fin 2, val_main_v39 (F := Ideal) x0 x1 x2 x3 (ix3 t k d) = mean x0 x1 x2 x3 (pick x0 x1 t k) d := fun k =>
    (rows_apply _ _ t k d _ (v38_eq x0 x1 t k)).trans (v32_eq x0 x1 x2 x3 _ d (routed_pos x0 x1 t k))
  have hi : idx_main_v41 (ix3 0 t d) = ix2 t d := by
    funext a
    match a with
    | ⟨0, _⟩ => exact Fin.ext (by show ((0 * 2048 + t.val) * 768 + d.val) / 768 = t.val; omega)
    | ⟨1, _⟩ => exact Fin.ext (by show ((0 * 2048 + t.val) * 768 + d.val) % 768 = d.val; omega)
  rw [val_main_v41_apply, hi, val_main_v40_apply, Fin.sum_univ_two,
    show lidx_main_v40 (ix2 t d) 0 = ix2 t 0 from eq_ix2 _, show lidx_main_v40 (ix2 t d) 1 = ix2 t 1 from eq_ix2 _,
    show ridx_main_v40 (ix2 t d) 0 = ix3 t 0 d from eq_ix3 _, show ridx_main_v40 (ix2 t d) 1 = ix3 t 1 d from eq_ix3 _,
    (v13_eq x0 x1 hr t).1, (v13_eq x0 x1 hr t).2, h39, h39]
  rfl

end Cert.ReferenceIdeal.Moe

end
-- ==== Proof.Value.Equation.lean ====
/-
  The equation: where the tokens, the gate and the second weights are finite, the kernel's result is the reference's.
-/
module

public import proofs.«01_k».proof.Proof.Value.Finite
public import proofs.«01_k».proof.Proof.Value.Handover
public import proofs.«01_k».proof.Proof.Value.Weights
public import proofs.«01_k».proof.Proof.Value.RefOut

@[expose] public section

noncomputable section

namespace Cert.KernelIdeal.Moe

open Cert.KernelIdeal Cert.KernelIdeal.Gen
open Cert.ReferenceIdeal.Moe (gate pick routed mean share v41_eq gate_real)
open Idealize.ShloMosaic
open Idealize.ShloMosaic.TcCoe Idealize.ShloMosaic.Tactic

variable (m : (ℓ : Loc nD τ sig) → Buf (Elt Ideal) ℓ)

/-- The kernel's logits are the reference's. -/
theorem logit_gate (c : Dev nD) : logit (toks m c) (gates m c) = gate (inX m c) (inG m c) :=
  funext fun t => funext fun e => Finset.sum_congr rfl fun k _ => congrArg₂ (· * ·) (toks_eq m c t k) (gates_eq m c e k)

/-- So are a token's two experts. -/
theorem eA_pick (c : Dev nD) (t : Fin 2048) : eA (toks m c) (gates m c) t = pick (inX m c) (inG m c) t 0 :=
  congrArg first (congrFun (logit_gate m c) t)
/-- The kernel's second choice is the reference's second index. -/
theorem eB_pick (c : Dev nD) (t : Fin 2048) : eB (toks m c) (gates m c) t = pick (inX m c) (inG m c) t 1 :=
  congrArg second (congrFun (logit_gate m c) t)

variable (h0 : ∀ i, inX m 0 i ≠ ⊥ ∧ inX m 0 i ≠ ⊤) (h1 : ∀ i, inG m 0 i ≠ ⊥ ∧ inG m 0 i ≠ ⊤) (h3 : ∀ i, inDown m 0 i ≠ ⊥ ∧ inDown m 0 i ≠ ⊤)
include h0 h1 h3

/-- The result at a token and a column. -/
theorem out_at (t : Fin 2048) (d : Fin 768) : (V6 m (outs m) 0 main_v0 : Vec Ideal S1x2048x768 .f32) (ix3 0 t d)
    = Cert.ReferenceIdeal.Read.val_main_v41 (F := Ideal) (inX m 0) (inG m 0) (inUp m 0) (inDown m 0) (ix3 0 t d) := by
  have hr : ∀ t e, ∃ r : ℝ, gate (inX m 0) (inG m 0) t e = r := gate_real _ _ h0 h1
  have hL : ∀ t e, ⊥ < logit (toks m 0) (gates m 0) t e := fun t e => by
    rw [logit_gate]
    obtain ⟨r, h⟩ := hr t e
    rw [h]
    exact EReal.bot_lt_coe r
  have hA : eA (toks m 0) (gates m 0) = fun t => pick (inX m 0) (inG m 0) t 0 := funext (eA_pick m 0)
  have hB : eB (toks m 0) (gates m 0) = fun t => pick (inX m 0) (inG m 0) t 1 := funext (eB_pick m 0)
  have hs : shareK (toks m 0) (gates m 0) t = share (inX m 0) (inG m 0) t := by
    unfold shareK share
    rw [hA, hB, logit_gate]
  have hm (e : Fin 8) : Ideal.div (sumArr (asRefs (U4 m)) 0 (ix2 e d)) (max (chosen (toks m 0) (gates m 0) e : EReal) 1)
      = mean (inX m 0) (inG m 0) (inUp m 0) (inDown m 0) e d := by
    rw [sumArr_eq m hL (fun e d f => h3 _)]
    unfold chosen
    rw [hA, hB]
    rfl
  rw [out_eq, v41_eq _ _ _ _ hr]
  unfold combined
  rw [wtsArr_eq, sum_wts _ _ hL t (fun e => sumArr (asRefs (U4 m)) 0 (ix2 e d)), hs]
  dsimp only
  rw [hm, hm, hA, hB]

/-- The result. -/
theorem out_reference : V6 m (outs m) 0 main_v0
    = Cert.ReferenceIdeal.Read.val_main_v41 (F := Ideal) (inX m 0) (inG m 0) (inUp m 0) (inDown m 0) := by
  funext i
  have hi : i = ix3 0 (i 1) (i 2) := (eq_ix3 i).trans (congrArg (fun z => ix3 z (i 1) (i 2)) (Subsingleton.elim (α := Fin 1) _ _))
  rw [hi]
  exact out_at m h0 h1 h3 (i 1) (i 2)

end Cert.KernelIdeal.Moe

end
-- ==== Proof.lean ====
/-
  The proof of `Cert.Claim`: the runs of the program at both arithmetics (Bits/Whole.lean, Ideal/Whole.lean) read at the
  arguments and the counters, the reference's generated run, the named mask constant, and the equation of the two results
  (Value/Equation.lean).
-/
module

public import proofs.«01_k».proof.Defs
public import proofs.«01_k».proof.Proof.Bits.Whole
public import proofs.«01_k».proof.Proof.Ideal.Whole
public import proofs.«01_k».proof.Proof.Value.Equation
public import proofs.«01_k».proof.Proof.Gen.ReferenceIdeal
public import proofs.«01_k».proof.Proof.Gen.ReferenceIdeal.Run
public import proofs.«01_k».proof.Proof.Gen.ReferenceIdeal.Read
public import Idealize.ShloMosaic.Adequacy
public import Idealize.ShloMosaic.Init

@[expose] public section

noncomputable section

namespace Cert.Proof

open Idealize.ShloMosaic Idealize.SL.Sem

/-- The kernel at the machine's floats runs from any memory, leaves its arguments as launched and every counter at zero. -/
theorem frame_kernel : Cert.quiescent_Kernel := fun m g _ =>
  (θ_run Cert.Kernel.defs _ _).mono (fun _ h => ⟨fun c => (h.1 c).2, h.2⟩) (Cert.Kernel.Moe.run_main (F := Bits) m g)

/-- The idealized kernel runs from any memory, leaves its arguments as launched and every counter at zero. -/
theorem frame_ideal : Cert.quiescent_KernelIdeal := fun m g _ =>
  (θ_run Cert.KernelIdeal.defs _ _).mono (fun _ h => ⟨fun c => (h.1 c).2, h.2⟩) (Cert.KernelIdeal.Moe.run_main (F := Ideal) m g)

/-- The reference runs from any memory and leaves its arguments as launched; it declares no counter. -/
theorem frame_reference : Cert.quiescent_ReferenceIdeal := fun m g _ =>
  (θ_run Cert.ReferenceIdeal.defs _ _).mono
    (fun r h => ⟨fun c => (h c).2, sem_eq_zero_of_no_sems (by decide) r.2⟩) (Cert.ReferenceIdeal.Value.run (F := Ideal) m g)

/-- The mask constant is named, and its name stands for minus infinity. -/
theorem named_mask : Cert.preserves_Kernel_KernelIdeal :=
  IdealRules.named_const.statement Cert.KernelIdeal.κ "mask" .f32 0xF149F2CA#32 ⊥ rfl

/-- Where the tokens, the gate and the second weights are finite, the idealized kernel and the reference end with the same result. -/
theorem equal_results : Cert.algebraic_KernelIdeal_ReferenceIdeal_pre_finite_routing_and_output
    (hPre_finite_routing_and_output := Cert.Pre_finite_routing_and_output.facts) := fun m g m' g' hp hm => by
  refine ⟨fun c => Cert.KernelIdeal.Gen.V6 m (Cert.KernelIdeal.Moe.outs m) c (Proc.devRef .tc Cert.KernelIdeal.main_v0),
    (θ_run Cert.KernelIdeal.defs _ _).mono (fun _ h => h.1) (Cert.KernelIdeal.Moe.run_main (F := Ideal) m g),
    (θ_run Cert.ReferenceIdeal.defs _ _).mono (fun r h c => ⟨?_, (h c).2⟩) (Cert.ReferenceIdeal.Value.run (F := Ideal) m' g')⟩
  have hc : c = 0 := Subsingleton.elim (α := Fin 1) _ _
  subst hc
  obtain ⟨h0, h1, h3⟩ :=
    @Cert.Pre_finite_routing_and_output.finite_args Cert.Pre_finite_routing_and_output.facts _ _ _ _ (hp 0)
  rw [(h 0).1, Cert.ReferenceIdeal.Read.val_main_v41_eq, (hm 0).1, (hm 0).2.1, (hm 0).2.2.1, (hm 0).2.2.2]
  exact (Cert.KernelIdeal.Moe.out_reference m h0 h1 h3).symm

/-- The claims of the statement: the three frames, the named constant, and the equality of results under the precondition. -/
theorem claim : Cert.Claim :=
  ⟨Cert.Kernel.Gen.facts, Cert.KernelIdeal.Gen.facts, Cert.ReferenceIdeal.Gen.facts, Cert.Pre_finite_routing_and_output.facts,
    frame_kernel, frame_ideal, fun m g _ => frame_ideal m g trivial, frame_reference, fun m g _ => frame_reference m g trivial,
    named_mask, equal_results⟩

end Cert.Proof

end
